-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S4x512x7040 : Shape := ⟨3, ![4, 512, 7040]⟩
abbrev S7040x2304 : Shape := ⟨2, ![7040, 2304]⟩
abbrev S55x18 : Shape := ⟨2, ![55, 18]⟩
abbrev S7040x16 : Shape := ⟨2, ![7040, 16]⟩
abbrev S16x2304 : Shape := ⟨2, ![16, 2304]⟩
abbrev S2048x55x128 : Shape := ⟨3, ![2048, 55, 128]⟩
abbrev S_ : Shape := ⟨0, ![]⟩
abbrev S2048x55 : Shape := ⟨2, ![2048, 55]⟩

class Facts : Prop where
  bitsLt_bf16_f32 : FTy.bits .bf16 < FTy.bits .f32
  shapeCasts_S4x512x7040_S2048x55x128 : S4x512x7040.ShapeCasts S2048x55x128
  reducesTo_S2048x55x128_S2048x55_d2 : S2048x55x128.ReducesTo [2] S2048x55
  h_S_ : 0 < S_.numel
  bcast_S_S2048x55 : S_.BroadcastsInDim S2048x55 (![] : Fin 0 → Fin S2048x55.rank)
  reducesTo_S2048x55_S_d0_1 : S2048x55.ReducesTo [0, 1] S_

variable [Facts]

def fn {F : FTy → Type} [FloatOps F] (main_arg0 : FVec F S4x512x7040 .bf16) (main_arg1 : FVec F S7040x2304 .fp8e4m3) (main_arg2 : FVec F S55x18 .f32) (main_arg3 : FVec F S7040x16 .bf16) (main_arg4 : FVec F S16x2304 .bf16) : IVec S_ 1 :=
  let main_v0 : FVec F S4x512x7040 .f32 := (extf .f32 · bitsLt_bf16_f32) main_arg0
  let main_v1 : FVec F S2048x55x128 .f32 := shapeCast S2048x55x128 main_v0 shapeCasts_S4x512x7040_S2048x55x128
  let main_v2 : FVec F S2048x55x128 .f32 := Host.absf main_v1
  let main_cst : FVec F S_ .f32 := constant S_ .f32 0xFF800000#32
  let main_v3 : FVec F S2048x55 .f32 := (fun x v => Host.reduce FloatOps.maximumf x v reducesTo_S2048x55x128_S2048x55_d2 h_S_) main_v2 main_cst
  let main_cst_0 : FVec F S_ .f32 := constant S_ .f32 0x3B124925#32
  let main_v4 : FVec F S2048x55 .f32 := broadcastInDim S2048x55 ![] bcast_S_S2048x55 main_cst_0
  let main_v5 : FVec F S2048x55 .f32 := mulf main_v3 main_v4
  let main_cst_1 : FVec F S_ .f32 := constant S_ .f32 0x00000000#32
  let main_v6 : FVec F S2048x55 .f32 := broadcastInDim S2048x55 ![] bcast_S_S2048x55 main_cst_1
  let main_v7 : IVec S2048x55 1 := cmpf .oeq main_v3 main_v6
  let main_cst_2 : FVec F S_ .f32 := constant S_ .f32 0x00800000#32
  let main_v8 : FVec F S2048x55 .f32 := broadcastInDim S2048x55 ![] bcast_S_S2048x55 main_cst_2
  let main_v9 : IVec S2048x55 1 := cmpf .oge main_v5 main_v8
  let main_cst_3 : FVec F S_ .f32 := constant S_ .f32 0x7E800000#32
  let main_v10 : FVec F S2048x55 .f32 := broadcastInDim S2048x55 ![] bcast_S_S2048x55 main_cst_3
  let main_v11 : IVec S2048x55 1 := cmpf .olt main_v5 main_v10
  let main_v12 : IVec S2048x55 1 := andi main_v9 main_v11
  let main_v13 : IVec S2048x55 1 := ori main_v7 main_v12
  let main_c : IVec S_ 1 := constantI S_ 1 1#1
  let main_v14 : IVec S_ 1 := (fun x v => Host.reduce IntOp.andi x v reducesTo_S2048x55_S_d0_1 h_S_) main_v13 main_c
  main_v14
-- ==== Kernel.lean ====
abbrev S4x512x7040 : Shape := ⟨3, ![4, 512, 7040]⟩
abbrev S7040x2304 : Shape := ⟨2, ![7040, 2304]⟩
abbrev S55x18 : Shape := ⟨2, ![55, 18]⟩
abbrev S7040x16 : Shape := ⟨2, ![7040, 16]⟩
abbrev S16x2304 : Shape := ⟨2, ![16, 2304]⟩
abbrev S18x55 : Shape := ⟨2, ![18, 55]⟩
abbrev S2048x7040 : Shape := ⟨2, ![2048, 7040]⟩
abbrev S16x7040 : Shape := ⟨2, ![16, 7040]⟩
abbrev S2048x2304 : Shape := ⟨2, ![2048, 2304]⟩
abbrev S2048x55 : Shape := ⟨2, ![2048, 55]⟩
abbrev S128x7040 : Shape := ⟨2, ![128, 7040]⟩
abbrev S128x2304 : Shape := ⟨2, ![128, 2304]⟩
abbrev S128x55 : Shape := ⟨2, ![128, 55]⟩
abbrev S1x1 : Shape := ⟨2, ![1, 1]⟩
abbrev S128x128 : Shape := ⟨2, ![128, 128]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S16x128 : Shape := ⟨2, ![16, 128]⟩

abbrev nBuf : Space → Nat
  | .hbm => 11
  | .vmem => 13
  | .smem => 1
  | _ => 0

abbrev bufTy : (tb : Table) → Fin (tcTables nBuf tb) → BufTy
  | .hbm, ⟨0, _⟩ => ⟨S4x512x7040, .bf16⟩
  | .hbm, ⟨1, _⟩ => ⟨S7040x2304, .fp8e4m3⟩
  | .hbm, ⟨2, _⟩ => ⟨S55x18, .f32⟩
  | .hbm, ⟨3, _⟩ => ⟨S7040x16, .bf16⟩
  | .hbm, ⟨4, _⟩ => ⟨S16x2304, .bf16⟩
  | .hbm, ⟨5, _⟩ => ⟨S18x55, .f32⟩
  | .hbm, ⟨6, _⟩ => ⟨S2048x7040, .bf16⟩
  | .hbm, ⟨7, _⟩ => ⟨S16x7040, .bf16⟩
  | .hbm, ⟨8, _⟩ => ⟨S2048x2304, .bf16⟩
  | .hbm, ⟨9, _⟩ => ⟨S2048x7040, .fp8e4m3⟩
  | .hbm, ⟨10, _⟩ => ⟨S2048x55, .f32⟩
  | .local _ .vmem, ⟨0, _⟩ => ⟨S128x7040, .bf16⟩
  | .local _ .vmem, ⟨1, _⟩ => ⟨S128x7040, .bf16⟩
  | .local _ .vmem, ⟨2, _⟩ => ⟨S7040x2304, .fp8e4m3⟩
  | .local _ .vmem, ⟨3, _⟩ => ⟨S16x7040, .bf16⟩
  | .local _ .vmem, ⟨4, _⟩ => ⟨S16x2304, .bf16⟩
  | .local _ .vmem, ⟨5, _⟩ => ⟨S128x2304, .bf16⟩
  | .local _ .vmem, ⟨6, _⟩ => ⟨S128x2304, .bf16⟩
  | .local _ .vmem, ⟨7, _⟩ => ⟨S128x7040, .fp8e4m3⟩
  | .local _ .vmem, ⟨8, _⟩ => ⟨S128x7040, .fp8e4m3⟩
  | .local _ .vmem, ⟨9, _⟩ => ⟨S128x55, .f32⟩
  | .local _ .vmem, ⟨10, _⟩ => ⟨S128x55, .f32⟩
  | .local _ .vmem, ⟨11, _⟩ => ⟨S7040x2304, .bf16⟩
  | .local _ .vmem, ⟨12, _⟩ => ⟨S128x7040, .bf16⟩
  | .local _ .smem, ⟨0, _⟩ => ⟨S18x55, .f32⟩
  | _, _ => ⟨S4x512x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_952 : BitVec 32 := 0#32
  let c55_i32 : BitVec 32 := 55#32
  let v2941 : BitVec 32 := Scalar.addi c0_i32_952 c55_i32
  let c1_i32_953 : BitVec 32 := 1#32
  ⟨c0_i32_952, v2941, c1_i32_953⟩
def k0_mult1 (k0_t1 : Fin k0_t1_loop.trips) : BitVec 32 :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  v2942
def k0_off1 (k0_t1 : Fin k0_t1_loop.trips) : Fin 2 → Nat :=
  let c0_955 : Index := 0#32
  let c0_i32_952 : BitVec 32 := 0#32
  let c1_i32_953 : BitVec 32 := 1#32
  let arg11 : BitVec 32 := Scf.iv c0_i32_952 c1_i32_953 k0_t1
  let v2944 : Index := Scalar.indexCast arg11
  ![0, v2944.toNat]
def k0_off2 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v2948 : Index := Scalar.indexCast v2943
  let c0_956 : Index := 0#32
  ![v2948.toNat, 0]
def k0_off3 (k0_t1 : Fin k0_t1_loop.trips) : Fin 2 → Nat :=
  let c1 : Index := 1#32
  let c0_i32_952 : BitVec 32 := 0#32
  let c1_i32_953 : BitVec 32 := 1#32
  let arg11 : BitVec 32 := Scf.iv c0_i32_952 c1_i32_953 k0_t1
  let v2956 : Index := Scalar.indexCast arg11
  ![1, v2956.toNat]
def k0_off4 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v2960 : Index := Scalar.indexCast v2943
  let c128_958 : Index := 128#32
  ![v2960.toNat, 128]
def k0_off5 (k0_t1 : Fin k0_t1_loop.trips) : Fin 2 → Nat :=
  let c2 : Index := 2#32
  let c0_i32_952 : BitVec 32 := 0#32
  let c1_i32_953 : BitVec 32 := 1#32
  let arg11 : BitVec 32 := Scf.iv c0_i32_952 c1_i32_953 k0_t1
  let v2968 : Index := Scalar.indexCast arg11
  ![2, v2968.toNat]
def k0_off6 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v2972 : Index := Scalar.indexCast v2943
  let c256_960 : Index := 256#32
  ![v2972.toNat, 256]
def k0_off7 (k0_t1 : Fin k0_t1_loop.trips) : Fin 2 → Nat :=
  let c3 : Index := 3#32
  let c0_i32_952 : BitVec 32 := 0#32
  let c1_i32_953 : BitVec 32 := 1#32
  let arg11 : BitVec 32 := Scf.iv c0_i32_952 c1_i32_953 k0_t1
  let v2980 : Index := Scalar.indexCast arg11
  ![3, v2980.toNat]
def k0_off8 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v2984 : Index := Scalar.indexCast v2943
  let c384_962 : Index := 384#32
  ![v2984.toNat, 384]
def k0_off9 (k0_t1 : Fin k0_t1_loop.trips) : Fin 2 → Nat :=
  let c4 : Index := 4#32
  let c0_i32_952 : BitVec 32 := 0#32
  let c1_i32_953 : BitVec 32 := 1#32
  let arg11 : BitVec 32 := Scf.iv c0_i32_952 c1_i32_953 k0_t1
  let v2992 : Index := Scalar.indexCast arg11
  ![4, v2992.toNat]
def k0_off10 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v2996 : Index := Scalar.indexCast v2943
  let c512_964 : Index := 512#32
  ![v2996.toNat, 512]
def k0_off11 (k0_t1 : Fin k0_t1_loop.trips) : Fin 2 → Nat :=
  let c5 : Index := 5#32
  let c0_i32_952 : BitVec 32 := 0#32
  let c1_i32_953 : BitVec 32 := 1#32
  let arg11 : BitVec 32 := Scf.iv c0_i32_952 c1_i32_953 k0_t1
  let v3004 : Index := Scalar.indexCast arg11
  ![5, v3004.toNat]
def k0_off12 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3008 : Index := Scalar.indexCast v2943
  let c640_966 : Index := 640#32
  ![v3008.toNat, 640]
def k0_off13 (k0_t1 : Fin k0_t1_loop.trips) : Fin 2 → Nat :=
  let c6 : Index := 6#32
  let c0_i32_952 : BitVec 32 := 0#32
  let c1_i32_953 : BitVec 32 := 1#32
  let arg11 : BitVec 32 := Scf.iv c0_i32_952 c1_i32_953 k0_t1
  let v3016 : Index := Scalar.indexCast arg11
  ![6, v3016.toNat]
def k0_off14 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3020 : Index := Scalar.indexCast v2943
  let c768_968 : Index := 768#32
  ![v3020.toNat, 768]
def k0_off15 (k0_t1 : Fin k0_t1_loop.trips) : Fin 2 → Nat :=
  let c7 : Index := 7#32
  let c0_i32_952 : BitVec 32 := 0#32
  let c1_i32_953 : BitVec 32 := 1#32
  let arg11 : BitVec 32 := Scf.iv c0_i32_952 c1_i32_953 k0_t1
  let v3028 : Index := Scalar.indexCast arg11
  ![7, v3028.toNat]
def k0_off16 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3032 : Index := Scalar.indexCast v2943
  let c896_970 : Index := 896#32
  ![v3032.toNat, 896]
def k0_off17 (k0_t1 : Fin k0_t1_loop.trips) : Fin 2 → Nat :=
  let c8 : Index := 8#32
  let c0_i32_952 : BitVec 32 := 0#32
  let c1_i32_953 : BitVec 32 := 1#32
  let arg11 : BitVec 32 := Scf.iv c0_i32_952 c1_i32_953 k0_t1
  let v3040 : Index := Scalar.indexCast arg11
  ![8, v3040.toNat]
def k0_off18 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3044 : Index := Scalar.indexCast v2943
  let c1024_972 : Index := 1024#32
  ![v3044.toNat, 1024]
def k0_off19 (k0_t1 : Fin k0_t1_loop.trips) : Fin 2 → Nat :=
  let c9 : Index := 9#32
  let c0_i32_952 : BitVec 32 := 0#32
  let c1_i32_953 : BitVec 32 := 1#32
  let arg11 : BitVec 32 := Scf.iv c0_i32_952 c1_i32_953 k0_t1
  let v3052 : Index := Scalar.indexCast arg11
  ![9, v3052.toNat]
def k0_off20 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3056 : Index := Scalar.indexCast v2943
  let c1152_974 : Index := 1152#32
  ![v3056.toNat, 1152]
def k0_off21 (k0_t1 : Fin k0_t1_loop.trips) : Fin 2 → Nat :=
  let c10 : Index := 10#32
  let c0_i32_952 : BitVec 32 := 0#32
  let c1_i32_953 : BitVec 32 := 1#32
  let arg11 : BitVec 32 := Scf.iv c0_i32_952 c1_i32_953 k0_t1
  let v3064 : Index := Scalar.indexCast arg11
  ![10, v3064.toNat]
def k0_off22 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3068 : Index := Scalar.indexCast v2943
  let c1280_976 : Index := 1280#32
  ![v3068.toNat, 1280]
def k0_off23 (k0_t1 : Fin k0_t1_loop.trips) : Fin 2 → Nat :=
  let c11 : Index := 11#32
  let c0_i32_952 : BitVec 32 := 0#32
  let c1_i32_953 : BitVec 32 := 1#32
  let arg11 : BitVec 32 := Scf.iv c0_i32_952 c1_i32_953 k0_t1
  let v3076 : Index := Scalar.indexCast arg11
  ![11, v3076.toNat]
def k0_off24 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3080 : Index := Scalar.indexCast v2943
  let c1408_978 : Index := 1408#32
  ![v3080.toNat, 1408]
def k0_off25 (k0_t1 : Fin k0_t1_loop.trips) : Fin 2 → Nat :=
  let c12 : Index := 12#32
  let c0_i32_952 : BitVec 32 := 0#32
  let c1_i32_953 : BitVec 32 := 1#32
  let arg11 : BitVec 32 := Scf.iv c0_i32_952 c1_i32_953 k0_t1
  let v3088 : Index := Scalar.indexCast arg11
  ![12, v3088.toNat]
def k0_off26 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3092 : Index := Scalar.indexCast v2943
  let c1536_980 : Index := 1536#32
  ![v3092.toNat, 1536]
def k0_off27 (k0_t1 : Fin k0_t1_loop.trips) : Fin 2 → Nat :=
  let c13 : Index := 13#32
  let c0_i32_952 : BitVec 32 := 0#32
  let c1_i32_953 : BitVec 32 := 1#32
  let arg11 : BitVec 32 := Scf.iv c0_i32_952 c1_i32_953 k0_t1
  let v3100 : Index := Scalar.indexCast arg11
  ![13, v3100.toNat]
def k0_off28 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3104 : Index := Scalar.indexCast v2943
  let c1664_982 : Index := 1664#32
  ![v3104.toNat, 1664]
def k0_off29 (k0_t1 : Fin k0_t1_loop.trips) : Fin 2 → Nat :=
  let c14 : Index := 14#32
  let c0_i32_952 : BitVec 32 := 0#32
  let c1_i32_953 : BitVec 32 := 1#32
  let arg11 : BitVec 32 := Scf.iv c0_i32_952 c1_i32_953 k0_t1
  let v3112 : Index := Scalar.indexCast arg11
  ![14, v3112.toNat]
def k0_off30 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3116 : Index := Scalar.indexCast v2943
  let c1792_984 : Index := 1792#32
  ![v3116.toNat, 1792]
def k0_off31 (k0_t1 : Fin k0_t1_loop.trips) : Fin 2 → Nat :=
  let c15 : Index := 15#32
  let c0_i32_952 : BitVec 32 := 0#32
  let c1_i32_953 : BitVec 32 := 1#32
  let arg11 : BitVec 32 := Scf.iv c0_i32_952 c1_i32_953 k0_t1
  let v3124 : Index := Scalar.indexCast arg11
  ![15, v3124.toNat]
def k0_off32 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3128 : Index := Scalar.indexCast v2943
  let c1920_986 : Index := 1920#32
  ![v3128.toNat, 1920]
def k0_off33 (k0_t1 : Fin k0_t1_loop.trips) : Fin 2 → Nat :=
  let c16 : Index := 16#32
  let c0_i32_952 : BitVec 32 := 0#32
  let c1_i32_953 : BitVec 32 := 1#32
  let arg11 : BitVec 32 := Scf.iv c0_i32_952 c1_i32_953 k0_t1
  let v3136 : Index := Scalar.indexCast arg11
  ![16, v3136.toNat]
def k0_off34 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3140 : Index := Scalar.indexCast v2943
  let c2048_988 : Index := 2048#32
  ![v3140.toNat, 2048]
def k0_off35 (k0_t1 : Fin k0_t1_loop.trips) : Fin 2 → Nat :=
  let c17 : Index := 17#32
  let c0_i32_952 : BitVec 32 := 0#32
  let c1_i32_953 : BitVec 32 := 1#32
  let arg11 : BitVec 32 := Scf.iv c0_i32_952 c1_i32_953 k0_t1
  let v3148 : Index := Scalar.indexCast arg11
  ![17, v3148.toNat]
def k0_off36 (k0_t1 : Fin k0_t1_loop.trips) : Fin 2 → Nat :=
  let c0_i32_952 : BitVec 32 := 0#32
  let c1_i32_953 : BitVec 32 := 1#32
  let arg11 : BitVec 32 := Scf.iv c0_i32_952 c1_i32_953 k0_t1
  let c128_i32 : BitVec 32 := 128#32
  let v2942 : BitVec 32 := Scalar.muli arg11 c128_i32
  let v2943 : BitVec 32 := v2942
  let v3152 : Index := Scalar.indexCast v2943
  let c2176_990 : Index := 2176#32
  ![v3152.toNat, 2176]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S18x55 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x7040 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7040x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x7040 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7040 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x55 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x512x7040 : Shape := ⟨3, ![4, 512, 7040]⟩
abbrev S7040x2304 : Shape := ⟨2, ![7040, 2304]⟩
abbrev S55x18 : Shape := ⟨2, ![55, 18]⟩
abbrev S7040x16 : Shape := ⟨2, ![7040, 16]⟩
abbrev S16x2304 : Shape := ⟨2, ![16, 2304]⟩
abbrev S2048x7040 : Shape := ⟨2, ![2048, 7040]⟩
abbrev S2048x2304 : Shape := ⟨2, ![2048, 2304]⟩
abbrev S2048x55 : Shape := ⟨2, ![2048, 55]⟩
abbrev S2048x55x128 : Shape := ⟨3, ![2048, 55, 128]⟩
abbrev S2048x55x1 : Shape := ⟨3, ![2048, 55, 1]⟩
abbrev S55x128x18x128 : Shape := ⟨4, ![55, 128, 18, 128]⟩
abbrev S55x1x18x1 : Shape := ⟨4, ![55, 1, 18, 1]⟩
abbrev S2048x16 : Shape := ⟨2, ![2048, 16]⟩

abbrev nBuf : Space → Nat
  | .hbm => 9
  | .vmem => 8
  | .smem => 0
  | _ => 0

abbrev bufTy : (tb : Table) → Fin (tcTables nBuf tb) → BufTy
  | .hbm, ⟨0, _⟩ => ⟨S4x512x7040, .bf16⟩
  | .hbm, ⟨1, _⟩ => ⟨S7040x2304, .fp8e4m3⟩
  | .hbm, ⟨2, _⟩ => ⟨S55x18, .f32⟩
  | .hbm, ⟨3, _⟩ => ⟨S7040x16, .bf16⟩
  | .hbm, ⟨4, _⟩ => ⟨S16x2304, .bf16⟩
  | .hbm, ⟨5, _⟩ => ⟨S2048x7040, .bf16⟩
  | .hbm, ⟨6, _⟩ => ⟨S2048x2304, .bf16⟩
  | .hbm, ⟨7, _⟩ => ⟨S2048x7040, .fp8e4m3⟩
  | .hbm, ⟨8, _⟩ => ⟨S2048x55, .f32⟩
  | .local _ .vmem, ⟨0, _⟩ => ⟨S2048x7040, .bf16⟩
  | .local _ .vmem, ⟨1, _⟩ => ⟨S7040x2304, .fp8e4m3⟩
  | .local _ .vmem, ⟨2, _⟩ => ⟨S55x18, .f32⟩
  | .local _ .vmem, ⟨3, _⟩ => ⟨S7040x16, .bf16⟩
  | .local _ .vmem, ⟨4, _⟩ => ⟨S16x2304, .bf16⟩
  | .local _ .vmem, ⟨5, _⟩ => ⟨S2048x2304, .bf16⟩
  | .local _ .vmem, ⟨6, _⟩ => ⟨S2048x7040, .fp8e4m3⟩
  | .local _ .vmem, ⟨7, _⟩ => ⟨S2048x55, .f32⟩
  | _, _ => ⟨S4x512x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x7040 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7040x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S55x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7040x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x7040 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x55 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Group.lean ====
module

public import proofs.«01_k».proof.Proof.Gen.KernelIdeal.Value

@[expose] public section

set_option maxRecDepth 16384

noncomputable section

/-! One group of 128 lanes of the kernel's body, named once.

The kernel treats its 55 groups one after another with the same operations; the printed payloads cut them at different places. The
definitions here are the first group's payloads, and the theorems say that the 55 groups' stores are those of one function of the group. -/

namespace Cert.KernelIdeal.Group

open Idealize.ShloMosaic Idealize.ShloMosaic.TcCoe Idealize.ShloMosaic.Tactic Cert.KernelIdeal.Gen

variable {F : FTy → Type} [FloatOps F]

/-- The scale of each row of one group. -/
abbrev scale (x : Vec F S128x128 .bf16) : FVec F S128x1 .f32 := k0_pay29 x

/-- The codes of one group. -/
abbrev code (x : Vec F S128x128 .bf16) : FVec F S128x128 .fp8e4m3 := k0_pay31 (k0_pay30 x)

/-- The codes of one group times their scale. -/
abbrev deq (x : Vec F S128x128 .bf16) : FVec F S128x128 .bf16 := k0_pay32 (k0_pay29 x) (k0_pay30 x)

/-- The scales of the groups before `n`: one lane is put in at a time. -/
def scales (b : ℕ → Vec F S128x128 .bf16) : ℕ → FVec F S128x55 .f32
  | 0 => k0_pay24
  | n + 1 => select (cmpi .eq (iota .tc S128x55 32 [1] iota_S128x55_d1_w32) (broadcast S128x55 (BitVec.ofNat 32 n)))
      (broadcastTo S128x55 (shapeCast S128x1 (scale (b n)) shapeCasts_S128x1_S128x1) broadcasts_S128x1_S128x55) (scales b n)

/-- The list of the first `n` members of a family, the last one first. -/
def upTo {α : Type} (p : ℕ → α) : ℕ → List α
  | 0 => []
  | n + 1 => p n :: upTo p n

/-- What is in that list. -/
theorem mem_upTo {α : Type} (p : ℕ → α) (n : ℕ) (a : α) : a ∈ upTo p n ↔ ∃ g, g < n ∧ a = p g := by
  induction n with
  | zero => simp [upTo]
  | succ n ih =>
    simp only [upTo, List.mem_cons, ih]
    constructor
    · rintro (rfl | ⟨g, h, rfl⟩)
      · exact ⟨n, Nat.lt_succ_self n, rfl⟩
      · exact ⟨g, Nat.lt_succ_of_lt h, rfl⟩
    · rintro ⟨g, h, rfl⟩
      rcases Nat.lt_succ_iff_lt_or_eq.mp h with h | rfl
      · exact Or.inr ⟨g, h, rfl⟩
      · exact Or.inl rfl

/-- Group `g`'s lanes lie in the row. -/
theorem inb_group (g : ℕ) : ∀ a, (![0, 128 * (g % 55)] : Fin 2 → ℕ) a + (![128, 128] : Fin 2 → ℕ) a ≤ S128x7040.size a := by
  intro a
  have := Nat.mod_lt g (show 0 < 55 by decide)
  match a with
  | ⟨0, _⟩ => show 0 + 128 ≤ 128; omega
  | ⟨1, _⟩ => show 128 * (g % 55) + 128 ≤ 7040; omega

/-- The lanes of group `g`. -/
abbrev lanes (g : ℕ) : Rect S128x7040 := Rect.unit ![0, 128 * (g % 55)] ![128, 128] (inb_group g)

section

variable (c : Dev nD) (i : grid0.Coords) (arg1 : Memref sig .tc .smem S18x55 .f32) (harg1 : arg1.IsWhole) (arg2 : Memref sig .tc .vmem S128x7040 .bf16) (harg2 : arg2.IsWhole) (arg3 : Memref sig .tc .vmem S7040x2304 .fp8e4m3) (harg3 : arg3.IsWhole) (arg4 : Memref sig .tc .vmem S16x7040 .bf16) (harg4 : arg4.IsWhole) (arg5 : Memref sig .tc .vmem S16x2304 .bf16) (harg5 : arg5.IsWhole) (arg6 : Memref sig .tc .vmem S128x2304 .bf16) (harg6 : arg6.IsWhole) (arg7 : Memref sig .tc .vmem S128x7040 .fp8e4m3) (harg7 : arg7.IsWhole) (arg8 : Memref sig .tc .vmem S128x55 .f32) (harg8 : arg8.IsWhole) (arg9 : Memref sig .tc .vmem S7040x2304 .bf16) (harg9 : arg9.IsWhole) (arg10 : Memref sig .tc .vmem S128x7040 .bf16) (harg10 : arg10.IsWhole)
    (x0 : Vec F S18x55 .f32) (x1 : Vec F S128x7040 .bf16) (x2 : Vec F S7040x2304 .fp8e4m3) (x3 : Vec F S16x7040 .bf16) (x4 : Vec F S16x2304 .bf16)

/-- Group `g` of the row block, as the body loads it. -/
abbrev load (g : ℕ) : Vec F S128x128 .bf16 := View.readAt (Elt F) arg2.view (lanes g).toLoadRect (harg2.unread x1)

/-- The body's stores of the codes at a later point: one per group. -/
theorem codes_B (hc0 : ¬cond0_0 i) (xs0 : Vec F S7040x2304 .bf16) :
    (kernelRun0_B c i arg1 harg1 arg2 harg2 arg3 harg3 arg4 harg4 arg5 harg5 arg6 harg6 arg7 harg7 arg8 harg8 arg9 harg9 arg10 harg10 hc0 x0 x1 x2 x3 x4 xs0).2.1 = upTo (fun g => (⟨lanes g, code (load arg2 harg2 x1 g)⟩ : View.Piece (Elt F) S128x7040 .fp8e4m3)) 55 := rfl

/-- The body's stores of the dequantised codes at a later point: one per group. -/
theorem deqs_B : kernelRun0_B.sl.HS1_55 c arg2 harg2 x1 =
    upTo (fun g => (⟨lanes g, deq (load arg2 harg2 x1 g)⟩ : View.Piece (Elt F) S128x7040 .bf16)) 55 := rfl

/-- The body's store of the scales at a later point. -/
theorem scales_B (hc0 : ¬cond0_0 i) (xs0 : Vec F S7040x2304 .bf16) :
    (kernelRun0_B c i arg1 harg1 arg2 harg2 arg3 harg3 arg4 harg4 arg5 harg5 arg6 harg6 arg7 harg7 arg8 harg8 arg9 harg9 arg10 harg10 hc0 x0 x1 x2 x3 x4 xs0).2.2.1 = [⟨Rect.unit ![0, 0] ![128, 55] inb_S128x55_S128x55_0_0, scales (load arg2 harg2 x1) 55⟩] := rfl

/-- The body's stores of the codes at the first point: one per group. -/
theorem codes_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4).2.1 = upTo (fun g => (⟨lanes g, code (load arg2 harg2 x1 g)⟩ : View.Piece (Elt F) S128x7040 .fp8e4m3)) 55 := rfl

/-- The body's stores of the dequantised codes at the first point: one per group. -/
theorem deqs_A : kernelRun0_A.sl.HS1_55 c arg2 harg2 x1 =
    upTo (fun g => (⟨lanes g, deq (load arg2 harg2 x1 g)⟩ : View.Piece (Elt F) S128x7040 .bf16)) 55 := rfl

/-- The body's store of the scales at the first point. -/
theorem scales_A (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4).2.2.1 = [⟨Rect.unit ![0, 0] ![128, 55] inb_S128x55_S128x55_0_0, scales (load arg2 harg2 x1) 55⟩] := rfl

end

end Cert.KernelIdeal.Group

end
-- ==== Proof.Block.lean ====
module

public import proofs.«01_k».proof.Proof.Group
public import Idealize.ShloMosaic.Lib.Pipeline.ValueKit.Basic
public import Idealize.ShloMosaic.Lib.Pointwise

@[expose] public section

set_option maxRecDepth 16384

noncomputable section

/-! What one run of the kernel's body leaves in the row block's three outputs, as functions of the blocks it read. -/

namespace Cert.KernelIdeal.Group

open Idealize.ShloMosaic Idealize.ShloMosaic.TcCoe Idealize.ShloMosaic.Tactic Cert.KernelIdeal.Gen

variable {F : FTy → Type} [FloatOps F]

attribute [local irreducible] upTo scales kernelRun0_A kernelRun0_B kernelRun0_A.sl.HS1_55 kernelRun0_B.sl.HS1_55

/-- Group `g` of a row block. -/
def group (x1 : Vec F S128x7040 .bf16) (g : ℕ) : Vec F S128x128 .bf16 := View.ld x1 (lanes g)

/-- The group a lane is in and the lane's place there, over a row block. -/
abbrev place (y : S128x7040.Idx) : S128x128.Idx := ix2 (y 0) ⟨(y 1).val % 128, Nat.mod_lt _ (by decide)⟩

/-- The codes of a row block. -/
def codes (x1 : Vec F S128x7040 .bf16) : FVec F S128x7040 .fp8e4m3 := fun y => code (group x1 ((y 1).val / 128)) (place y)

/-- The dequantised row block. -/
def deqs (x1 : Vec F S128x7040 .bf16) : FVec F S128x7040 .bf16 := fun y => deq (group x1 ((y 1).val / 128)) (place y)

/-- Writing a function of the group group by group leaves it at every lane. -/
theorem canon_groups {e : EltTy} (f : ℕ → S128x128.Idx → Elt F e) (y : S128x7040.Idx) :
    View.canon (upTo (fun g => (⟨lanes g, f g⟩ : View.Piece (Elt F) S128x7040 e)) 55) y = f ((y 1).val / 128) (place y) := by
  have h1 : (y 1).val < 7040 := (y 1).isLt
  refine View.canon_apply_of_pieces (fun y => f ((y 1).val / 128) (place y)) _ ?_ y ?_
  · intro p hp x
    obtain ⟨g, hg, rfl⟩ := (mem_upTo _ _ _).mp hp
    have hx : (x 1).val < 128 := (x 1).isLt
    have e1 : (((lanes g).emb x) 1).val = 128 * g + (x 1).val := by
      show 128 * (g % 55) + 1 * (x 1).val = _
      rw [Nat.mod_eq_of_lt hg, Nat.one_mul]
    have e0 : (((lanes g).emb x) 0).val = (x 0).val := by
      show 0 + 1 * (x 0).val = _
      omega
    have ed : (((lanes g).emb x) 1).val / 128 = g := by rw [e1]; omega
    have em : place ((lanes g).emb x) = x := by
      refine funext fun a => Fin.ext ?_
      match a with
      | ⟨0, _⟩ => exact e0
      | ⟨1, _⟩ => show (((lanes g).emb x) 1).val % 128 = (x 1).val; rw [e1]; omega
    show f g x = f ((((lanes g).emb x) 1).val / 128) (place ((lanes g).emb x))
    rw [ed, em]
  · refine ⟨_, (mem_upTo _ _ _).mpr ⟨(y 1).val / 128, by omega, rfl⟩, ?_⟩
    rw [Rect.mem_set_unit]
    intro a
    match a with
    | ⟨0, _⟩ => exact ⟨Nat.zero_le _, (y 0).isLt⟩
    | ⟨1, _⟩ =>
      show 128 * ((y 1).val / 128 % 55) ≤ (y 1).val ∧ (y 1).val < 128 * ((y 1).val / 128 % 55) + 128
      omega

section

variable (c : Dev nD) (i : grid0.Coords) (arg1 : Memref sig .tc .smem S18x55 .f32) (harg1 : arg1.IsWhole) (arg2 : Memref sig .tc .vmem S128x7040 .bf16) (harg2 : arg2.IsWhole) (arg3 : Memref sig .tc .vmem S7040x2304 .fp8e4m3) (harg3 : arg3.IsWhole) (arg4 : Memref sig .tc .vmem S16x7040 .bf16) (harg4 : arg4.IsWhole) (arg5 : Memref sig .tc .vmem S16x2304 .bf16) (harg5 : arg5.IsWhole) (arg6 : Memref sig .tc .vmem S128x2304 .bf16) (harg6 : arg6.IsWhole) (arg7 : Memref sig .tc .vmem S128x7040 .fp8e4m3) (harg7 : arg7.IsWhole) (arg8 : Memref sig .tc .vmem S128x55 .f32) (harg8 : arg8.IsWhole) (arg9 : Memref sig .tc .vmem S7040x2304 .bf16) (harg9 : arg9.IsWhole) (arg10 : Memref sig .tc .vmem S128x7040 .bf16) (harg10 : arg10.IsWhole)
    (x0 : Vec F S18x55 .f32) (x1 : Vec F S128x7040 .bf16) (x2 : Vec F S7040x2304 .fp8e4m3) (x3 : Vec F S16x7040 .bf16) (x4 : Vec F S16x2304 .bf16)

/-- A group as the body loads it. -/
theorem load_eq : load arg2 harg2 x1 = group x1 := by
  funext g
  show View.ld (arg2.view.read (Elt F) (harg2.unread x1)) (lanes g) = _
  rw [harg2.read_unread]
  rfl

/-- The codes the first point leaves. -/
theorem out6_A (hc0 : cond0_0 i) : out0_A_6 c i arg1 harg1 arg2 harg2 arg3 harg3 arg4 harg4 arg5 harg5 arg6 harg6 arg7 harg7 arg8 harg8 arg9 harg9 arg10 harg10 hc0 x0 x1 x2 x3 x4 = codes x1 := by
  unfold out0_A_6
  rw [View.read_writes_junk_eq_canon, codes_A, load_eq]
  exact funext fun y => canon_groups (F := F) (e := .fp8e4m3) (fun g => code (group x1 g)) y

/-- The scales the first point leaves. -/
theorem out7_A (hc0 : cond0_0 i) : out0_A_7 c i arg1 harg1 arg2 harg2 arg3 harg3 arg4 harg4 arg5 harg5 arg6 harg6 arg7 harg7 arg8 harg8 arg9 harg9 arg10 harg10 hc0 x0 x1 x2 x3 x4 = scales (group x1) 55 := by
  unfold out0_A_7
  rw [View.read_writes_junk_eq_canon, scales_A, load_eq]
  generalize scales (group x1) 55 = w
  exact View.canon_unit_zero (Val := Elt F) (S := S128x55) (e := .f32) (off := ![0, 0]) (funext fun a => by fin_cases a <;> rfl) _ w

/-- The dequantised row block as the products at the first point read it. -/
theorem read_deqs_A : kernelRun0_A.sl.v2930 c arg2 harg2 arg10 x1 = deqs x1 := by
  show arg10.view.readCov (kernelRun0_A.sl.HS1_55 c arg2 harg2 x1) (Rect.unit (s := S128x7040) ![0, 0] S128x7040.size inb_S128x7040_S128x7040_0_0).toLoadRect = _
  rw [View.readCov_eq_canon', deqs_A, load_eq]
  funext y
  refine (canon_groups (F := F) (e := .bf16) (fun g => deq (group x1 g)) _).trans ?_
  show deqs x1 _ = _
  congr 1
  refine funext fun a => Fin.ext ?_
  match a with
  | ⟨0, _⟩ => show 0 + 1 * (y 0).val = (y 0).val; omega
  | ⟨1, _⟩ => show 0 + 1 * (y 1).val = (y 1).val; omega

/-- The codes a later point leaves. -/
theorem out6_B (hc0 : ¬cond0_0 i) (xs0 : Vec F S7040x2304 .bf16) : out0_B_6 c i arg1 harg1 arg2 harg2 arg3 harg3 arg4 harg4 arg5 harg5 arg6 harg6 arg7 harg7 arg8 harg8 arg9 harg9 arg10 harg10 hc0 x0 x1 x2 x3 x4 xs0 = codes x1 := by
  unfold out0_B_6
  rw [View.read_writes_junk_eq_canon, codes_B, load_eq]
  exact funext fun y => canon_groups (F := F) (e := .fp8e4m3) (fun g => code (group x1 g)) y

/-- The scales a later point leaves. -/
theorem out7_B (hc0 : ¬cond0_0 i) (xs0 : Vec F S7040x2304 .bf16) : out0_B_7 c i arg1 harg1 arg2 harg2 arg3 harg3 arg4 harg4 arg5 harg5 arg6 harg6 arg7 harg7 arg8 harg8 arg9 harg9 arg10 harg10 hc0 x0 x1 x2 x3 x4 xs0 = scales (group x1) 55 := by
  unfold out0_B_7
  rw [View.read_writes_junk_eq_canon, scales_B, load_eq]
  generalize scales (group x1) 55 = w
  exact View.canon_unit_zero (Val := Elt F) (S := S128x55) (e := .f32) (off := ![0, 0]) (funext fun a => by fin_cases a <;> rfl) _ w

/-- The dequantised row block as the products at a later point read it. -/
theorem read_deqs_B : kernelRun0_B.sl.v2930 c arg2 harg2 arg10 x1 = deqs x1 := by
  show arg10.view.readCov (kernelRun0_B.sl.HS1_55 c arg2 harg2 x1) (Rect.unit (s := S128x7040) ![0, 0] S128x7040.size inb_S128x7040_S128x7040_0_0).toLoadRect = _
  rw [View.readCov_eq_canon', deqs_B, load_eq]
  funext y
  refine (canon_groups (F := F) (e := .bf16) (fun g => deq (group x1 g)) _).trans ?_
  show deqs x1 _ = _
  congr 1
  refine funext fun a => Fin.ext ?_
  match a with
  | ⟨0, _⟩ => show 0 + 1 * (y 0).val = (y 0).val; omega
  | ⟨1, _⟩ => show 0 + 1 * (y 1).val = (y 1).val; omega

end

end Cert.KernelIdeal.Group

end
-- ==== Proof.Weights.lean ====
module

public import proofs.«01_k».proof.Proof.Block

@[expose] public section

set_option maxRecDepth 16384

noncomputable section

/-! The dequantised weights the first point keeps in scratch: the loop over the 55 row blocks of 128, 18 column blocks in each trip. -/

namespace Cert.KernelIdeal.Group

open Idealize.ShloMosaic Idealize.ShloMosaic.TcCoe Idealize.ShloMosaic.Tactic Cert.KernelIdeal.Gen

variable {F : FTy → Type} [FloatOps F]

/-- The weights times their block's scale: the scales are transposed, so the column block comes first. -/
def weights (x0 : Vec F S18x55 .f32) (x2 : Vec F S7040x2304 .fp8e4m3) : FVec F S7040x2304 .bf16 := fun y =>
  FloatOps.mulf (FloatOps.extf .bf16 bitsLt_fp8e4m3_bf16 (x2 y))
    (FloatOps.truncf .bf16 bitsLt_bf16_f32 (x0 (ix2 ⟨(y 1).val / 128, Nat.div_lt_of_lt_mul (y 1).isLt⟩ ⟨(y 0).val / 128, Nat.div_lt_of_lt_mul (y 0).isLt⟩)))

/-- A weight times a scale, at one place of the block. -/
theorem pay3_apply (s : Elt F .f32) (v : Vec F S128x128 .fp8e4m3) (x : S128x128.Idx) :
    k0_pay3 s v x = FloatOps.mulf (FloatOps.extf .bf16 bitsLt_fp8e4m3_bf16 (v x)) (FloatOps.truncf .bf16 bitsLt_bf16_f32 s) := by
  unfold k0_pay3
  rw [shapeCast_self]
  rfl

section

variable (c : Dev nD) (i : grid0.Coords) (arg1 : Memref sig .tc .smem S18x55 .f32) (harg1 : arg1.IsWhole) (arg2 : Memref sig .tc .vmem S128x7040 .bf16) (harg2 : arg2.IsWhole) (arg3 : Memref sig .tc .vmem S7040x2304 .fp8e4m3) (harg3 : arg3.IsWhole) (arg4 : Memref sig .tc .vmem S16x7040 .bf16) (harg4 : arg4.IsWhole) (arg5 : Memref sig .tc .vmem S16x2304 .bf16) (harg5 : arg5.IsWhole) (arg6 : Memref sig .tc .vmem S128x2304 .bf16) (harg6 : arg6.IsWhole) (arg7 : Memref sig .tc .vmem S128x7040 .fp8e4m3) (harg7 : arg7.IsWhole) (arg8 : Memref sig .tc .vmem S128x55 .f32) (harg8 : arg8.IsWhole) (arg9 : Memref sig .tc .vmem S7040x2304 .bf16) (harg9 : arg9.IsWhole) (arg10 : Memref sig .tc .vmem S128x7040 .bf16) (harg10 : arg10.IsWhole)
    (x0 : Vec F S18x55 .f32) (x1 : Vec F S128x7040 .bf16) (x2 : Vec F S7040x2304 .fp8e4m3) (x3 : Vec F S16x7040 .bf16) (x4 : Vec F S16x2304 .bf16)

/-- One store of a trip: a block of weights times the scale read at `o1`. -/
abbrev part (o1 : Fin 2 → ℕ) (h1 : ∀ a, o1 a + S1x1.size a ≤ S18x55.size a) (o2 : Fin 2 → ℕ) (h2 : ∀ a, o2 a + S128x128.size a ≤ S7040x2304.size a) :
    View.Piece (Elt F) S7040x2304 .bf16 :=
  ⟨Rect.unit (s := S7040x2304) o2 S128x128.size h2,
    k0_pay3 (View.readAt (Elt F) arg1.view (Rect.unit (s := S18x55) o1 S1x1.size h1).toLoadRect (harg1.unread x0) (Shape.Idx.first (numel1_S1x1.symm ▸ Nat.one_pos)))
      (View.readAt (Elt F) arg3.view (Rect.unit (s := S7040x2304) o2 S128x128.size h2).toLoadRect (harg3.unread x2))⟩

/-- A trip's stores. -/
theorem trip_eq (hc0 : cond0_0 i) (k : Fin k0_t1_loop.trips) :
    tripL_k0_t1 Variants.none c none i arg1 harg1 arg2 harg2 arg3 harg3 arg4 harg4 arg5 harg5 arg6 harg6 arg7 harg7 arg8 harg8 arg9 harg9 arg10 harg10 hc0 (harg1.unread x0) (harg3.unread x2) k =
      [part arg1 harg1 arg3 harg3 x0 x2 (k0_off35 k) (k0_off35_inb i k hc0) (k0_off36 k) (k0_off36_inb i k hc0),
      part arg1 harg1 arg3 harg3 x0 x2 (k0_off33 k) (k0_off33_inb i k hc0) (k0_off34 k) (k0_off34_inb i k hc0),
      part arg1 harg1 arg3 harg3 x0 x2 (k0_off31 k) (k0_off31_inb i k hc0) (k0_off32 k) (k0_off32_inb i k hc0),
      part arg1 harg1 arg3 harg3 x0 x2 (k0_off29 k) (k0_off29_inb i k hc0) (k0_off30 k) (k0_off30_inb i k hc0),
      part arg1 harg1 arg3 harg3 x0 x2 (k0_off27 k) (k0_off27_inb i k hc0) (k0_off28 k) (k0_off28_inb i k hc0),
      part arg1 harg1 arg3 harg3 x0 x2 (k0_off25 k) (k0_off25_inb i k hc0) (k0_off26 k) (k0_off26_inb i k hc0),
      part arg1 harg1 arg3 harg3 x0 x2 (k0_off23 k) (k0_off23_inb i k hc0) (k0_off24 k) (k0_off24_inb i k hc0),
      part arg1 harg1 arg3 harg3 x0 x2 (k0_off21 k) (k0_off21_inb i k hc0) (k0_off22 k) (k0_off22_inb i k hc0),
      part arg1 harg1 arg3 harg3 x0 x2 (k0_off19 k) (k0_off19_inb i k hc0) (k0_off20 k) (k0_off20_inb i k hc0),
      part arg1 harg1 arg3 harg3 x0 x2 (k0_off17 k) (k0_off17_inb i k hc0) (k0_off18 k) (k0_off18_inb i k hc0),
      part arg1 harg1 arg3 harg3 x0 x2 (k0_off15 k) (k0_off15_inb i k hc0) (k0_off16 k) (k0_off16_inb i k hc0),
      part arg1 harg1 arg3 harg3 x0 x2 (k0_off13 k) (k0_off13_inb i k hc0) (k0_off14 k) (k0_off14_inb i k hc0),
      part arg1 harg1 arg3 harg3 x0 x2 (k0_off11 k) (k0_off11_inb i k hc0) (k0_off12 k) (k0_off12_inb i k hc0),
      part arg1 harg1 arg3 harg3 x0 x2 (k0_off9 k) (k0_off9_inb i k hc0) (k0_off10 k) (k0_off10_inb i k hc0),
      part arg1 harg1 arg3 harg3 x0 x2 (k0_off7 k) (k0_off7_inb i k hc0) (k0_off8 k) (k0_off8_inb i k hc0),
      part arg1 harg1 arg3 harg3 x0 x2 (k0_off5 k) (k0_off5_inb i k hc0) (k0_off6 k) (k0_off6_inb i k hc0),
      part arg1 harg1 arg3 harg3 x0 x2 (k0_off3 k) (k0_off3_inb i k hc0) (k0_off4 k) (k0_off4_inb i k hc0),
      part arg1 harg1 arg3 harg3 x0 x2 (k0_off1 k) (k0_off1_inb i k hc0) (k0_off2 k) (k0_off2_inb i k hc0)] := by
  unfold tripL_k0_t1 trip_k0_t1
  rfl

/-- Block `(k, h)` of the weights: what a store puts there, and which places it is. -/
def Holds (x0 : Vec F S18x55 .f32) (x2 : Vec F S7040x2304 .fp8e4m3) (k h : ℕ) (p : View.Piece (Elt F) S7040x2304 .bf16) : Prop :=
  (∀ x, p.2 x = weights x0 x2 (p.1.emb x)) ∧ ∀ y : S7040x2304.Idx, (y 0).val / 128 = k → (y 1).val / 128 = h → y ∈ p.1.set

/-- A store at block `(k, h)` holds the weights there. -/
theorem part_eq (o1 : Fin 2 → ℕ) (h1 : ∀ a, o1 a + S1x1.size a ≤ S18x55.size a) (o2 : Fin 2 → ℕ) (h2 : ∀ a, o2 a + S128x128.size a ≤ S7040x2304.size a)
    (k h : ℕ) (hk : k < 55) (hh : h < 18) (e1 : o1 = ![h, k]) (e2 : o2 = ![128 * k, 128 * h]) :
    Holds x0 x2 k h (part arg1 harg1 arg3 harg3 x0 x2 o1 h1 o2 h2) := by
  subst e1 e2
  constructor
  · intro x
    have hx0 : (x 0).val < 128 := (x 0).isLt
    have hx1 : (x 1).val < 128 := (x 1).isLt
    refine (pay3_apply _ _ x).trans ?_
    show FloatOps.mulf (FloatOps.extf .bf16 bitsLt_fp8e4m3_bf16 ((arg3.view.read (Elt F) (harg3.unread x2)) _))
      (FloatOps.truncf .bf16 bitsLt_bf16_f32 ((arg1.view.read (Elt F) (harg1.unread x0)) _)) = _
    rw [harg1.read_unread, harg3.read_unread]
    unfold weights
    refine congrArg₂ FloatOps.mulf rfl (congrArg (FloatOps.truncf .bf16 bitsLt_bf16_f32) (congrArg x0 (funext fun a => Fin.ext ?_)))
    match a with
    | ⟨0, _⟩ => show h + 1 * 0 = (128 * h + 1 * (x 1).val) / 128; omega
    | ⟨1, _⟩ => show k + 1 * 0 = (128 * k + 1 * (x 0).val) / 128; omega
  · intro y h0 h1
    rw [Rect.mem_set_unit]
    intro a
    match a with
    | ⟨0, _⟩ => show 128 * k ≤ (y 0).val ∧ (y 0).val < 128 * k + 128; omega
    | ⟨1, _⟩ => show 128 * h ≤ (y 1).val ∧ (y 1).val < 128 * h + 128; omega

/-- Every store of a trip is at one of its 18 column blocks, and each column block has its store. -/
theorem trip_holds (hc0 : cond0_0 i) (k : Fin k0_t1_loop.trips) :
    (∀ p ∈ tripL_k0_t1 Variants.none c none i arg1 harg1 arg2 harg2 arg3 harg3 arg4 harg4 arg5 harg5 arg6 harg6 arg7 harg7 arg8 harg8 arg9 harg9 arg10 harg10 hc0 (harg1.unread x0) (harg3.unread x2) k, ∀ x, p.2 x = weights x0 x2 (p.1.emb x)) ∧
      ∀ y : S7040x2304.Idx, (y 0).val / 128 = k.val → ∃ p ∈ tripL_k0_t1 Variants.none c none i arg1 harg1 arg2 harg2 arg3 harg3 arg4 harg4 arg5 harg5 arg6 harg6 arg7 harg7 arg8 harg8 arg9 harg9 arg10 harg10 hc0 (harg1.unread x0) (harg3.unread x2) k, y ∈ p.1.set := by
  have hk : k.val < 55 := Nat.lt_of_lt_of_le k.isLt k0_t1_abs.2.1
  have H : ∃ f : ℕ → View.Piece (Elt F) S7040x2304 .bf16, (∀ h, h < 18 → Holds x0 x2 k.val h (f h)) ∧
      tripL_k0_t1 Variants.none c none i arg1 harg1 arg2 harg2 arg3 harg3 arg4 harg4 arg5 harg5 arg6 harg6 arg7 harg7 arg8 harg8 arg9 harg9 arg10 harg10 hc0 (harg1.unread x0) (harg3.unread x2) k = upTo f 18 := by
    refine ⟨fun h => match h with
      | 0 => part arg1 harg1 arg3 harg3 x0 x2 (k0_off1 k) (k0_off1_inb i k hc0) (k0_off2 k) (k0_off2_inb i k hc0)
      | 1 => part arg1 harg1 arg3 harg3 x0 x2 (k0_off3 k) (k0_off3_inb i k hc0) (k0_off4 k) (k0_off4_inb i k hc0)
      | 2 => part arg1 harg1 arg3 harg3 x0 x2 (k0_off5 k) (k0_off5_inb i k hc0) (k0_off6 k) (k0_off6_inb i k hc0)
      | 3 => part arg1 harg1 arg3 harg3 x0 x2 (k0_off7 k) (k0_off7_inb i k hc0) (k0_off8 k) (k0_off8_inb i k hc0)
      | 4 => part arg1 harg1 arg3 harg3 x0 x2 (k0_off9 k) (k0_off9_inb i k hc0) (k0_off10 k) (k0_off10_inb i k hc0)
      | 5 => part arg1 harg1 arg3 harg3 x0 x2 (k0_off11 k) (k0_off11_inb i k hc0) (k0_off12 k) (k0_off12_inb i k hc0)
      | 6 => part arg1 harg1 arg3 harg3 x0 x2 (k0_off13 k) (k0_off13_inb i k hc0) (k0_off14 k) (k0_off14_inb i k hc0)
      | 7 => part arg1 harg1 arg3 harg3 x0 x2 (k0_off15 k) (k0_off15_inb i k hc0) (k0_off16 k) (k0_off16_inb i k hc0)
      | 8 => part arg1 harg1 arg3 harg3 x0 x2 (k0_off17 k) (k0_off17_inb i k hc0) (k0_off18 k) (k0_off18_inb i k hc0)
      | 9 => part arg1 harg1 arg3 harg3 x0 x2 (k0_off19 k) (k0_off19_inb i k hc0) (k0_off20 k) (k0_off20_inb i k hc0)
      | 10 => part arg1 harg1 arg3 harg3 x0 x2 (k0_off21 k) (k0_off21_inb i k hc0) (k0_off22 k) (k0_off22_inb i k hc0)
      | 11 => part arg1 harg1 arg3 harg3 x0 x2 (k0_off23 k) (k0_off23_inb i k hc0) (k0_off24 k) (k0_off24_inb i k hc0)
      | 12 => part arg1 harg1 arg3 harg3 x0 x2 (k0_off25 k) (k0_off25_inb i k hc0) (k0_off26 k) (k0_off26_inb i k hc0)
      | 13 => part arg1 harg1 arg3 harg3 x0 x2 (k0_off27 k) (k0_off27_inb i k hc0) (k0_off28 k) (k0_off28_inb i k hc0)
      | 14 => part arg1 harg1 arg3 harg3 x0 x2 (k0_off29 k) (k0_off29_inb i k hc0) (k0_off30 k) (k0_off30_inb i k hc0)
      | 15 => part arg1 harg1 arg3 harg3 x0 x2 (k0_off31 k) (k0_off31_inb i k hc0) (k0_off32 k) (k0_off32_inb i k hc0)
      | 16 => part arg1 harg1 arg3 harg3 x0 x2 (k0_off33 k) (k0_off33_inb i k hc0) (k0_off34 k) (k0_off34_inb i k hc0)
      | 17 => part arg1 harg1 arg3 harg3 x0 x2 (k0_off35 k) (k0_off35_inb i k hc0) (k0_off36 k) (k0_off36_inb i k hc0)
      | _ => part arg1 harg1 arg3 harg3 x0 x2 (k0_off1 k) (k0_off1_inb i k hc0) (k0_off2 k) (k0_off2_inb i k hc0), ?_, trip_eq c i arg1 harg1 arg2 harg2 arg3 harg3 arg4 harg4 arg5 harg5 arg6 harg6 arg7 harg7 arg8 harg8 arg9 harg9 arg10 harg10 x0 x2 hc0 k⟩
    intro h hh
    interval_cases h
    · exact part_eq arg1 harg1 arg3 harg3 x0 x2 _ _ _ _ k.val 0 hk (by decide) (k0_off1_eq k) (k0_off2_eq k)
    · exact part_eq arg1 harg1 arg3 harg3 x0 x2 _ _ _ _ k.val 1 hk (by decide) (k0_off3_eq k) (k0_off4_eq k)
    · exact part_eq arg1 harg1 arg3 harg3 x0 x2 _ _ _ _ k.val 2 hk (by decide) (k0_off5_eq k) (k0_off6_eq k)
    · exact part_eq arg1 harg1 arg3 harg3 x0 x2 _ _ _ _ k.val 3 hk (by decide) (k0_off7_eq k) (k0_off8_eq k)
    · exact part_eq arg1 harg1 arg3 harg3 x0 x2 _ _ _ _ k.val 4 hk (by decide) (k0_off9_eq k) (k0_off10_eq k)
    · exact part_eq arg1 harg1 arg3 harg3 x0 x2 _ _ _ _ k.val 5 hk (by decide) (k0_off11_eq k) (k0_off12_eq k)
    · exact part_eq arg1 harg1 arg3 harg3 x0 x2 _ _ _ _ k.val 6 hk (by decide) (k0_off13_eq k) (k0_off14_eq k)
    · exact part_eq arg1 harg1 arg3 harg3 x0 x2 _ _ _ _ k.val 7 hk (by decide) (k0_off15_eq k) (k0_off16_eq k)
    · exact part_eq arg1 harg1 arg3 harg3 x0 x2 _ _ _ _ k.val 8 hk (by decide) (k0_off17_eq k) (k0_off18_eq k)
    · exact part_eq arg1 harg1 arg3 harg3 x0 x2 _ _ _ _ k.val 9 hk (by decide) (k0_off19_eq k) (k0_off20_eq k)
    · exact part_eq arg1 harg1 arg3 harg3 x0 x2 _ _ _ _ k.val 10 hk (by decide) (k0_off21_eq k) (k0_off22_eq k)
    · exact part_eq arg1 harg1 arg3 harg3 x0 x2 _ _ _ _ k.val 11 hk (by decide) (k0_off23_eq k) (k0_off24_eq k)
    · exact part_eq arg1 harg1 arg3 harg3 x0 x2 _ _ _ _ k.val 12 hk (by decide) (k0_off25_eq k) (k0_off26_eq k)
    · exact part_eq arg1 harg1 arg3 harg3 x0 x2 _ _ _ _ k.val 13 hk (by decide) (k0_off27_eq k) (k0_off28_eq k)
    · exact part_eq arg1 harg1 arg3 harg3 x0 x2 _ _ _ _ k.val 14 hk (by decide) (k0_off29_eq k) (k0_off30_eq k)
    · exact part_eq arg1 harg1 arg3 harg3 x0 x2 _ _ _ _ k.val 15 hk (by decide) (k0_off31_eq k) (k0_off32_eq k)
    · exact part_eq arg1 harg1 arg3 harg3 x0 x2 _ _ _ _ k.val 16 hk (by decide) (k0_off33_eq k) (k0_off34_eq k)
    · exact part_eq arg1 harg1 arg3 harg3 x0 x2 _ _ _ _ k.val 17 hk (by decide) (k0_off35_eq k) (k0_off36_eq k)
  obtain ⟨f, hf, e⟩ := H
  rw [e]
  constructor
  · intro p hp
    obtain ⟨h, hh, rfl⟩ := (mem_upTo _ _ _).mp hp
    exact (hf h hh).1
  · intro y hy
    have hh : (y 1).val / 128 < 18 := Nat.div_lt_of_lt_mul (y 1).isLt
    exact ⟨_, (mem_upTo _ _ _).mpr ⟨_, hh, rfl⟩, (hf _ hh).2 y hy rfl⟩

/-- The same of all the trips before `n`. -/
theorem loop_holds (hc0 : cond0_0 i) (n : ℕ) (hn : n ≤ k0_t1_loop.trips) :
    (∀ p ∈ pb_k0_t1 Variants.none c none i arg1 harg1 arg2 harg2 arg3 harg3 arg4 harg4 arg5 harg5 arg6 harg6 arg7 harg7 arg8 harg8 arg9 harg9 arg10 harg10 hc0 (harg1.unread x0) (harg3.unread x2) n, ∀ x, p.2 x = weights x0 x2 (p.1.emb x)) ∧
      ∀ y : S7040x2304.Idx, (y 0).val / 128 < n → ∃ p ∈ pb_k0_t1 Variants.none c none i arg1 harg1 arg2 harg2 arg3 harg3 arg4 harg4 arg5 harg5 arg6 harg6 arg7 harg7 arg8 harg8 arg9 harg9 arg10 harg10 hc0 (harg1.unread x0) (harg3.unread x2) n, y ∈ p.1.set := by
  induction n with
  | zero => exact ⟨fun p hp => absurd hp (List.not_mem_nil), fun y hy => absurd hy (Nat.not_lt_zero _)⟩
  | succ n ih =>
    have ih := ih (Nat.le_of_succ_le hn)
    have T := trip_holds c i arg1 harg1 arg2 harg2 arg3 harg3 arg4 harg4 arg5 harg5 arg6 harg6 arg7 harg7 arg8 harg8 arg9 harg9 arg10 harg10 x0 x2 hc0 ⟨n, hn⟩
    rw [pb_k0_t1_succ Variants.none c none i arg1 harg1 arg2 harg2 arg3 harg3 arg4 harg4 arg5 harg5 arg6 harg6 arg7 harg7 arg8 harg8 arg9 harg9 arg10 harg10 hc0 (harg1.unread x0) (harg3.unread x2) ⟨n, hn⟩]
    constructor
    · intro p hp
      rcases List.mem_append.mp hp with hp | hp
      · exact T.1 p hp
      · exact ih.1 p hp
    · intro y hy
      rcases Nat.lt_succ_iff_lt_or_eq.mp hy with hy | hy
      · obtain ⟨p, hp, h⟩ := ih.2 y hy
        exact ⟨p, List.mem_append_right _ hp, h⟩
      · obtain ⟨p, hp, h⟩ := T.2 y hy
        exact ⟨p, List.mem_append_left _ hp, h⟩

/-- What the whole loop's stores leave: the weights times their scales. -/
theorem canon_loop (hc0 : cond0_0 i) : View.canon (pb_k0_t1 Variants.none c none i arg1 harg1 arg2 harg2 arg3 harg3 arg4 harg4 arg5 harg5 arg6 harg6 arg7 harg7 arg8 harg8 arg9 harg9 arg10 harg10 hc0 (harg1.unread x0) (harg3.unread x2) k0_t1_loop.trips) = weights x0 x2 := by
  have H := loop_holds c i arg1 harg1 arg2 harg2 arg3 harg3 arg4 harg4 arg5 harg5 arg6 harg6 arg7 harg7 arg8 harg8 arg9 harg9 arg10 harg10 x0 x2 hc0 _ le_rfl
  have h55 : k0_t1_loop.trips = 55 := by decide +kernel
  funext y
  refine View.canon_apply_of_pieces (weights x0 x2) _ H.1 y (H.2 y ?_)
  have := (y 0).isLt
  rw [h55]
  exact Nat.div_lt_of_lt_mul (y 0).isLt

end

end Cert.KernelIdeal.Group

end
-- ==== Proof.Products.lean ====
module

public import proofs.«01_k».proof.Proof.Weights

@[expose] public section

set_option maxRecDepth 16384

noncomputable section

/-! What one run of the kernel's body leaves in its first output and in the carried scratch. -/

namespace Cert.KernelIdeal.Group

open Idealize.ShloMosaic Idealize.ShloMosaic.TcCoe Idealize.ShloMosaic.Tactic Cert.KernelIdeal.Gen

variable {F : FTy → Type} [FloatOps F]

attribute [local irreducible] upTo scales kernelRun0_A.sl.HS1_55 kernelRun0_B.sl.HS1_55

/-- The offsets of a whole block. -/
theorem zeros : (![0, 0] : Fin 2 → ℕ) = fun _ => 0 := funext fun a => by fin_cases a <;> rfl

section

variable (c : Dev nD) (i : grid0.Coords) (arg1 : Memref sig .tc .smem S18x55 .f32) (harg1 : arg1.IsWhole) (arg2 : Memref sig .tc .vmem S128x7040 .bf16) (harg2 : arg2.IsWhole) (arg3 : Memref sig .tc .vmem S7040x2304 .fp8e4m3) (harg3 : arg3.IsWhole) (arg4 : Memref sig .tc .vmem S16x7040 .bf16) (harg4 : arg4.IsWhole) (arg5 : Memref sig .tc .vmem S16x2304 .bf16) (harg5 : arg5.IsWhole) (arg6 : Memref sig .tc .vmem S128x2304 .bf16) (harg6 : arg6.IsWhole) (arg7 : Memref sig .tc .vmem S128x7040 .fp8e4m3) (harg7 : arg7.IsWhole) (arg8 : Memref sig .tc .vmem S128x55 .f32) (harg8 : arg8.IsWhole) (arg9 : Memref sig .tc .vmem S7040x2304 .bf16) (harg9 : arg9.IsWhole) (arg10 : Memref sig .tc .vmem S128x7040 .bf16) (harg10 : arg10.IsWhole)
    (x0 : Vec F S18x55 .f32) (x1 : Vec F S128x7040 .bf16) (x2 : Vec F S7040x2304 .fp8e4m3) (x3 : Vec F S16x7040 .bf16) (x4 : Vec F S16x2304 .bf16)

/-- The scratch the first point leaves holds the weights times their scales. -/
theorem sout_A (hc0 : cond0_0 i) : sout0_A_0 c i arg1 harg1 arg2 harg2 arg3 harg3 arg4 harg4 arg5 harg5 arg6 harg6 arg7 harg7 arg8 harg8 arg9 harg9 arg10 harg10 hc0 x0 x1 x2 x3 x4 = weights x0 x2 := by
  unfold sout0_A_0
  rw [View.read_writes_junk_eq_canon]
  exact canon_loop c i arg1 harg1 arg2 harg2 arg3 harg3 arg4 harg4 arg5 harg5 arg6 harg6 arg7 harg7 arg8 harg8 arg9 harg9 arg10 harg10 x0 x2 hc0

/-- The products of the first point. -/
theorem out5_A (hc0 : cond0_0 i) : out0_A_5 c i arg1 harg1 arg2 harg2 arg3 harg3 arg4 harg4 arg5 harg5 arg6 harg6 arg7 harg7 arg8 harg8 arg9 harg9 arg10 harg10 hc0 x0 x1 x2 x3 x4 = k0_pay2 x3 x1 (deqs x1) (weights x0 x2) x4 := by
  unfold out0_A_5
  rw [View.read_writes_junk_eq_canon]
  show View.canon [(⟨Rect.unit (s := S128x2304) ![0, 0] S128x2304.size inb_S128x2304_S128x2304_0_0,
    k0_pay2 (View.ld (arg4.view.read (Elt F) (harg4.unread x3)) (Rect.unit (s := S16x7040) ![0, 0] S16x7040.size inb_S16x7040_S16x7040_0_0))
      (View.ld (arg2.view.read (Elt F) (harg2.unread x1)) (Rect.unit (s := S128x7040) ![0, 0] S128x7040.size inb_S128x7040_S128x7040_0_0))
      (kernelRun0_A.sl.v2930 c arg2 harg2 arg10 x1)
      (arg9.view.readCov (pb_k0_t1 Variants.none c none i arg1 harg1 arg2 harg2 arg3 harg3 arg4 harg4 arg5 harg5 arg6 harg6 arg7 harg7 arg8 harg8 arg9 harg9 arg10 harg10 hc0 (harg1.unread x0) (harg3.unread x2) k0_t1_loop.trips) (Rect.unit (s := S7040x2304) ![0, 0] S7040x2304.size inb_S7040x2304_S7040x2304_0_0).toLoadRect)
      (View.ld (arg5.view.read (Elt F) (harg5.unread x4)) (Rect.unit (s := S16x2304) ![0, 0] S16x2304.size inb_S16x2304_S16x2304_0_0))⟩ : View.Piece (Elt F) S128x2304 .bf16)] = _
  rw [View.canon_unit_zero (S := S128x2304) zeros, read_deqs_A, View.readCov_eq_canon', canon_loop c i arg1 harg1 arg2 harg2 arg3 harg3 arg4 harg4 arg5 harg5 arg6 harg6 arg7 harg7 arg8 harg8 arg9 harg9 arg10 harg10 x0 x2 hc0,
    harg4.read_unread, harg2.read_unread, harg5.read_unread, View.ld_unit_zero (S := S16x7040) zeros, View.ld_unit_zero (S := S128x7040) zeros, View.ld_unit_zero (S := S16x2304) zeros]
  congr 1
  exact View.ld_unit_zero (S := S7040x2304) (Val := Elt F) (e := .bf16) zeros _ (weights x0 x2)

/-- The products of a later point, from the scratch as the point before left it. -/
theorem out5_B (hc0 : ¬cond0_0 i) (xs0 : Vec F S7040x2304 .bf16) : out0_B_5 c i arg1 harg1 arg2 harg2 arg3 harg3 arg4 harg4 arg5 harg5 arg6 harg6 arg7 harg7 arg8 harg8 arg9 harg9 arg10 harg10 hc0 x0 x1 x2 x3 x4 xs0 = k0_pay2 x3 x1 (deqs x1) xs0 x4 := by
  unfold out0_B_5
  rw [View.read_writes_junk_eq_canon]
  show View.canon [(⟨Rect.unit (s := S128x2304) ![0, 0] S128x2304.size inb_S128x2304_S128x2304_0_0,
    k0_pay2 (View.ld (arg4.view.read (Elt F) (harg4.unread x3)) (Rect.unit (s := S16x7040) ![0, 0] S16x7040.size inb_S16x7040_S16x7040_0_0))
      (View.ld (arg2.view.read (Elt F) (harg2.unread x1)) (Rect.unit (s := S128x7040) ![0, 0] S128x7040.size inb_S128x7040_S128x7040_0_0))
      (kernelRun0_B.sl.v2930 c arg2 harg2 arg10 x1)
      (View.ld (arg9.view.read (Elt F) (harg9.unread xs0)) (Rect.unit (s := S7040x2304) ![0, 0] S7040x2304.size inb_S7040x2304_S7040x2304_0_0))
      (View.ld (arg5.view.read (Elt F) (harg5.unread x4)) (Rect.unit (s := S16x2304) ![0, 0] S16x2304.size inb_S16x2304_S16x2304_0_0))⟩ : View.Piece (Elt F) S128x2304 .bf16)] = _
  rw [View.canon_unit_zero (S := S128x2304) zeros, read_deqs_B, harg4.read_unread, harg2.read_unread, harg5.read_unread, harg9.read_unread,
    View.ld_unit_zero (S := S16x7040) zeros, View.ld_unit_zero (S := S128x7040) zeros, View.ld_unit_zero (S := S16x2304) zeros, View.ld_unit_zero (S := S7040x2304) zeros]

end

end Cert.KernelIdeal.Group

end
-- ==== Proof.Arrays.lean ====
module

public import proofs.«01_k».proof.Proof.Products
public import Idealize.ShloMosaic.Lib.Pipeline.ValueKit.Geometry
public import Idealize.ShloMosaic.Lib.Pipeline.ValueKit.Held
public import Idealize.ShloMosaic.Lib.Pipeline.ValueKit
public import Idealize.ShloMosaic.Lib.Claim

@[expose] public section

set_option maxRecDepth 16384

noncomputable section

/-! The kernel's three result arrays after the run, as functions of the arrays the launch reads. -/

namespace Cert.KernelIdeal.Group

open Idealize.ShloMosaic Idealize.ShloMosaic.TcCoe Idealize.ShloMosaic.Tactic Cert.KernelIdeal.Gen
open Idealize.ShloMosaic.Pipeline (Dat)

variable {F : FTy → Type} [FloatOps F]
variable (m : (ℓ : Loc nD τ sig) → Buf (Elt F) ℓ)

/-- The activations as rows. -/
abbrev xs (c : Dev nD) : Vec F S2048x7040 .bf16 := shapeCast S2048x7040 (m ((c : Thread nD τ).loc main_arg0)) shapeCasts_S4x512x7040_S2048x7040

/-- The weights' scales, transposed. -/
abbrev scaleT (c : Dev nD) : Vec F S18x55 .f32 := transpose S18x55 [1, 0] (m ((c : Thread nD τ).loc main_arg2)) transposes_S55x18_S18x55_1_0

/-- The adapter's first factor, transposed. -/
abbrev loraT (c : Dev nD) : Vec F S16x7040 .bf16 := transpose S16x7040 [1, 0] (m ((c : Thread nD τ).loc main_arg3)) transposes_S7040x16_S16x7040_1_0

/-- Row block `n`. -/
def rows (x : Vec F S2048x7040 .bf16) (n : ℕ) : Vec F S128x7040 .bf16 := fun y =>
  x (ix2 ⟨(128 * n + (y 0).val) % 2048, Nat.mod_lt _ (by decide)⟩ (y 1))

theorem V0 (c : Dev nD) : V m c main_v0 = scaleT m c := by entry_read; rfl
theorem V1 (c : Dev nD) : V m c main_v1 = xs m c := by entry_read; rfl
theorem V3 (c : Dev nD) : V m c main_v2 = loraT m c := by entry_read; rfl

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

/-- Every grid point reads the whole table of weight scales. -/
theorem iblk0 (c : Dev nD) (t : Fin cfg0.N) : (iblk m c 0 t : Vec F S18x55 .f32) = scaleT m c := by
  rw [← V0]; funext (y : S18x55.Idx)
  blk_simp [iblk]
  blk_ext [idx0]

/-- Grid point `t` reads row block `t` of the activations. -/
theorem iblk1 (c : Dev nD) (t : Fin cfg0.N) : (iblk m c 1 t : Vec F S128x7040 .bf16) = rows (xs m c) t.val := by
  rw [← V1]; funext (y : S128x7040.Idx)
  have ht : t.val < 16 := lt_of_lt_of_eq t.isLt N_0
  blk_simp [iblk]
  unfold rows
  blk_ext [idx1]

/-- Every grid point reads all weight codes. -/
theorem iblk2 (c : Dev nD) (t : Fin cfg0.N) : (iblk m c 2 t : Vec F S7040x2304 .fp8e4m3) = m ((c : Thread nD τ).loc main_arg1) := by
  rw [← V_main_arg1 m c]; funext (y : S7040x2304.Idx)
  blk_simp [iblk]
  blk_ext [idx2]

/-- Every grid point reads the adapter's whole first factor. -/
theorem iblk3 (c : Dev nD) (t : Fin cfg0.N) : (iblk m c 3 t : Vec F S16x7040 .bf16) = loraT m c := by
  rw [← V3]; funext (y : S16x7040.Idx)
  blk_simp [iblk]
  blk_ext [idx3]

/-- Every grid point reads the adapter's whole second factor. -/
theorem iblk4 (c : Dev nD) (t : Fin cfg0.N) : (iblk m c 4 t : Vec F S16x2304 .bf16) = m ((c : Thread nD τ).loc main_arg4) := by
  rw [← V_main_arg4 m c]; funext (y : S16x2304.Idx)
  blk_simp [iblk]
  blk_ext [idx4]

/-- The dequantised weights of the launch. -/
abbrev ws (c : Dev nD) : FVec F S7040x2304 .bf16 := weights (scaleT m c) (m ((c : Thread nD τ).loc main_arg1))

/-- The first point fills the scratch with the dequantised weights and no later point changes it. -/
theorem scratch (c : Dev nD) (t : Fin cfg0.N) : (outsAt0 m c t.val t.isLt).2.2.2 = ws m c := by
  have h := Pipeline.eq_of_write_hold (fun n h => (outsAt0 m c n h).2.2.2) 16 (fun _ => ws m c)
    (fun t h0 => by
      rw [outsAt0_A m c t h0]
      dsimp only
      rw [sout_A, iblk0, iblk2])
    (fun t h0 => by
      rw [outsAt0_B m c t h0]
      rfl) t
  exact h

/-- What a point leaves in the first result's block. -/
theorem outs5 (c : Dev nD) (t : Fin cfg0.N) : (outsAt0 m c t.val t.isLt).1 =
    k0_pay2 (loraT m c) (rows (xs m c) t.val) (deqs (rows (xs m c) t.val)) (ws m c) (m ((c : Thread nD τ).loc main_arg4)) := by
  by_cases h0 : t.val % 16 = 0
  · rw [outsAt0_A m c t h0]
    dsimp only
    rw [out5_A, iblk0, iblk1, iblk2, iblk3, iblk4]
  · rw [outsAt0_B m c t h0]
    dsimp only
    have hN : t.val - 1 < cfg0.N := Nat.lt_of_le_of_lt (Nat.sub_le _ _) t.isLt
    have e : (outsAt0 m c (t.val - 1) hN).2.2.2 = ws m c := scratch m c ⟨t.val - 1, hN⟩
    rw [out5_B, iblk1, iblk3, iblk4, e]

/-- What a point leaves in the second result's block. -/
theorem outs6 (c : Dev nD) (t : Fin cfg0.N) : (outsAt0 m c t.val t.isLt).2.1 = codes (rows (xs m c) t.val) := by
  by_cases h0 : t.val % 16 = 0
  · rw [outsAt0_A m c t h0]
    dsimp only
    rw [out6_A, iblk1]
  · rw [outsAt0_B m c t h0]
    dsimp only
    rw [out6_B, iblk1]

/-- What a point leaves in the third result's block. -/
theorem outs7 (c : Dev nD) (t : Fin cfg0.N) : (outsAt0 m c t.val t.isLt).2.2.1 = scales (group (rows (xs m c) t.val)) 55 := by
  by_cases h0 : t.val % 16 = 0
  · rw [outsAt0_A m c t h0]
    dsimp only
    rw [out7_A, iblk1]
  · rw [outsAt0_B m c t h0]
    dsimp only
    rw [out7_B, iblk1]

/-- The first result: block `i0 / 128`, row `i0 % 128`. -/
def final5 (c : Dev nD) : Vec F S2048x2304 .bf16 := fun i =>
  k0_pay2 (loraT m c) (rows (xs m c) ((i 0).val / 128)) (deqs (rows (xs m c) ((i 0).val / 128))) (ws m c)
    (m ((c : Thread nD τ).loc main_arg4)) (ix2 ⟨(i 0).val % 128, Nat.mod_lt _ (by decide)⟩ (i 1))

/-- The second result. -/
def final6 (c : Dev nD) : Vec F S2048x7040 .fp8e4m3 := fun i =>
  codes (rows (xs m c) ((i 0).val / 128)) (ix2 ⟨(i 0).val % 128, Nat.mod_lt _ (by decide)⟩ (i 1))

/-- The third result. -/
def final7 (c : Dev nD) : Vec F S2048x55 .f32 := fun i =>
  scales (group (rows (xs m c) ((i 0).val / 128))) 55 (ix2 ⟨(i 0).val % 128, Nat.mod_lt _ (by decide)⟩ (i 1))

attribute [local irreducible] scales

/-- The array of window 5 after the run. -/
theorem arr5 (c : Dev nD) : (dats m 0 c).arrAt 5 cfg0.N = final5 m c := by
  refine (dats m 0 c).arrAt_eq_of_covers 5 _ (by decide +kernel) fun t hf y => ?_
  change S128x2304.Idx at y
  blk_simp
  rw [after0_5, outs5]
  have ht : t.val < 16 := lt_of_lt_of_eq t.isLt N_0
  have hy : (y 0).val < 128 := (y 0).isLt
  have h0 : ((win0_5.blk t).view.emb y 0 : ℕ) = 128 * t.val + (y 0).val := by blk_simp [idx5]; omega
  have h1 : ((win0_5.blk t).view.emb y 1 : ℕ) = (y 1).val := by blk_simp [idx5];
  have hd : ((win0_5.blk t).view.emb y 0 : ℕ) / 128 = t.val := by omega
  unfold final5
  rw [hd]
  refine congrArg _ ?_
  funext a; apply Fin.ext
  fin_cases a
  · show (y 0).val = ((win0_5.blk t).view.emb y 0 : ℕ) % 128; omega
  · show (y 1).val = ((win0_5.blk t).view.emb y 1 : ℕ); omega

/-- The array of window 6 after the run. -/
theorem arr6 (c : Dev nD) : (dats m 0 c).arrAt 6 cfg0.N = final6 m c := by
  refine (dats m 0 c).arrAt_eq_of_covers 6 _ (by decide +kernel) fun t hf y => ?_
  change S128x7040.Idx at y
  blk_simp
  rw [after0_6, outs6]
  have ht : t.val < 16 := lt_of_lt_of_eq t.isLt N_0
  have hy : (y 0).val < 128 := (y 0).isLt
  have h0 : ((win0_6.blk t).view.emb y 0 : ℕ) = 128 * t.val + (y 0).val := by blk_simp [idx6]; omega
  have h1 : ((win0_6.blk t).view.emb y 1 : ℕ) = (y 1).val := by blk_simp [idx6];
  have hd : ((win0_6.blk t).view.emb y 0 : ℕ) / 128 = t.val := by omega
  unfold final6
  rw [hd]
  refine congrArg _ ?_
  funext a; apply Fin.ext
  fin_cases a
  · show (y 0).val = ((win0_6.blk t).view.emb y 0 : ℕ) % 128; omega
  · show (y 1).val = ((win0_6.blk t).view.emb y 1 : ℕ); omega

/-- The array of window 7 after the run. -/
theorem arr7 (c : Dev nD) : (dats m 0 c).arrAt 7 cfg0.N = final7 m c := by
  refine (dats m 0 c).arrAt_eq_of_covers 7 _ (by decide +kernel) fun t hf y => ?_
  change S128x55.Idx at y
  blk_simp
  rw [after0_7, outs7]
  have ht : t.val < 16 := lt_of_lt_of_eq t.isLt N_0
  have hy : (y 0).val < 128 := (y 0).isLt
  have h0 : ((win0_7.blk t).view.emb y 0 : ℕ) = 128 * t.val + (y 0).val := by blk_simp [idx7]; omega
  have h1 : ((win0_7.blk t).view.emb y 1 : ℕ) = (y 1).val := by blk_simp [idx7];
  have hd : ((win0_7.blk t).view.emb y 0 : ℕ) / 128 = t.val := by omega
  unfold final7
  rw [hd]
  refine congrArg _ ?_
  funext a; apply Fin.ext
  fin_cases a
  · show (y 0).val = ((win0_7.blk t).view.emb y 0 : ℕ) % 128; omega
  · show (y 1).val = ((win0_7.blk t).view.emb y 1 : ℕ); omega

end Cert.KernelIdeal.Group

end
-- ==== Proof.Powers.lean ====
module

public import Idealize.ShloMosaic.Lib.Pointwise
public import Idealize.ShloMosaic.Lib.IndicatorCount

@[expose] public section

set_option maxRecDepth 16384

noncomputable section

/-! Powers of two: how the count of the float patterns `k <<< 23` above a value gives the value's exponent. -/

namespace Cert.Powers

open Idealize.ShloMosaic

/-- The `k`-th of the patterns with an empty significand. -/
abbrev power (k : ℕ) : EReal := Ideal.ofBits .f32 (BitVec.ofNat 32 (k * 8388608))

theorem bits : ∀ k : Fin 256, ((BitVec.ofNat 32 (k.val * 8388608)).extractLsb' 31 1 == 1#1) = false
    ∧ ((BitVec.ofNat 32 (k.val * 8388608)).extractLsb' 23 8).toNat = k.val
    ∧ ((BitVec.ofNat 32 (k.val * 8388608)).extractLsb' 0 23).toNat = 0 := by decide +kernel

/-- A pattern with an empty significand, read field by field. -/
theorem power_eq (k : ℕ) (h : k < 256) : power k = if k = 255 then ⊤ else if k = 0 then 0 else (((2 : ℝ) ^ ((k : ℤ) - 127) : ℝ) : EReal) := by
  obtain ⟨h1, h2, h3⟩ := bits ⟨k, h⟩
  dsimp only at h1 h2 h3
  unfold power Ideal.ofBits Ideal.ieee
  generalize BitVec.ofNat 32 (k * 8388608) = b at h1 h2 h3 ⊢
  simp only [show (8 + 23 : ℕ) = 31 from rfl, h1, h2, h3, show (2 ^ 8 - 1 : ℕ) = 255 from rfl]
  by_cases e : k = 255
  · simp [e]
  by_cases e0 : k = 0
  · simp [e0]
  simp only [e, e0, if_false]
  congr 1
  simp only [Bool.false_eq_true, if_false, one_mul, Nat.add_zero]
  have h23 : (((2 ^ 23 : ℕ) : ℝ)) = (2 : ℝ) ^ (23 : ℤ) := by norm_num
  rw [h23, ← zpow_add₀ (by norm_num)]
  congr 1
  norm_num

/-- A normal pattern with an empty significand is a power of two. -/
theorem power_normal (k : ℕ) (h0 : 0 < k) (h : k < 255) : power k = (((2 : ℝ) ^ ((k : ℤ) - 127) : ℝ) : EReal) := by
  rw [power_eq k (by omega), if_neg (by omega), if_neg (by omega)]

theorem power_zero : power 0 = 0 := by rw [power_eq 0 (by omega), if_neg (by omega), if_pos rfl]

theorem power_top : power 255 = ⊤ := by rw [power_eq 255 (by omega), if_pos rfl]

/-- A value between two neighbouring powers of two is below exactly the later patterns. -/
theorem lt_power_iff (v : ℝ) (K : ℕ) (h0 : 0 < K) (h : K < 254) (lo : (2 : ℝ) ^ ((K : ℤ) - 127) ≤ v) (hi : v < (2 : ℝ) ^ ((K : ℤ) - 126))
    (k : ℕ) (hk : k < 256) : (v : EReal) < power k ↔ K < k := by
  have hv : 0 < v := lt_of_lt_of_le (zpow_pos (by norm_num) _) lo
  rcases Nat.eq_zero_or_pos k with rfl | hk0
  · rw [power_zero]
    constructor
    · intro e; exact absurd (EReal.coe_lt_coe_iff.mp (by simpa using e : (v : EReal) < ((0 : ℝ) : EReal))) (by linarith)
    · omega
  rcases Nat.lt_or_ge k 255 with hk1 | hk1
  · rw [power_normal k hk0 hk1, EReal.coe_lt_coe_iff]
    constructor
    · intro e
      have := (zpow_lt_zpow_iff_right₀ (by norm_num : (1 : ℝ) < 2)).mp (lt_of_le_of_lt lo e)
      omega
    · intro e
      exact lt_of_lt_of_le hi (zpow_le_zpow_right₀ (by norm_num) (by omega))
  · obtain rfl : k = 255 := by omega
    rw [power_top]
    exact ⟨fun _ => by omega, fun _ => EReal.coe_lt_top v⟩

/-- The patterns above zero. -/
theorem zero_lt_power_iff (k : ℕ) (hk : k < 256) : (0 : EReal) < power k ↔ 0 < k := by
  rcases Nat.eq_zero_or_pos k with rfl | hk0
  · rw [power_zero]; simp
  rcases Nat.lt_or_ge k 255 with hk1 | hk1
  · rw [power_normal k hk0 hk1]
    exact ⟨fun _ => hk0, fun _ => EReal.coe_pos.mpr (zpow_pos (by norm_num) _)⟩
  · obtain rfl : k = 255 := by omega
    rw [power_top]; simp

/-- The number of the later patterns. -/
theorem card_gt (K : ℕ) (h : K < 256) : (Finset.univ.filter fun k : Fin 256 => K < k.val).card = 255 - K := by
  have e : (Finset.univ.filter fun k : Fin 256 => K < k.val) = Finset.Ioi (⟨K, h⟩ : Fin 256) := by
    ext k; simp [Fin.lt_def]
  rw [e, Fin.card_Ioi]

/-- The number of patterns above a value, as the kernel counts them. -/
def below (v : EReal) : BitVec 32 := Finset.univ.fold IntOp.addi 0#32 fun k : Fin 256 =>
  (BitVec.ofBool (decide (v < Ideal.ofBits .f32 (IntOp.shli ArithUnit.vector (BitVec.ofNat 32 k.val) 23#32)))).setWidth 32

/-- The exponent field of a value, as the kernel finds it. -/
def field (v : EReal) : BitVec 32 := IntOp.shli ArithUnit.vector (IntOp.subi 255#32 (below v)) 23#32

theorem shift (k : ℕ) (h : k < 256) : IntOp.shli ArithUnit.vector (BitVec.ofNat 32 k) 23#32 = BitVec.ofNat 32 (k * 8388608) :=
  (by decide +kernel : ∀ k : Fin 256, IntOp.shli ArithUnit.vector (BitVec.ofNat 32 k.val) 23#32 = BitVec.ofNat 32 (k.val * 8388608)) ⟨k, h⟩

theorem complement (k : ℕ) (h : k < 256) : IntOp.subi 255#32 (BitVec.ofNat 32 (255 - k)) = BitVec.ofNat 32 k :=
  (by decide +kernel : ∀ k : Fin 256, IntOp.subi 255#32 (BitVec.ofNat 32 (255 - k.val)) = BitVec.ofNat 32 k.val) ⟨k, h⟩

theorem field_of (v : EReal) (K : ℕ) (h : K < 256) (hv : ∀ k, k < 256 → (v < power k ↔ K < k)) : field v = BitVec.ofNat 32 (K * 8388608) := by
  have e : below v = BitVec.ofNat 32 (255 - K) := by
    unfold below
    rw [IndicatorCount.fold_addi_setWidth_eq_card]
    congr 1
    rw [← card_gt K h]
    congr 1
    ext k
    simp only [Finset.mem_filter, Finset.mem_univ, true_and]
    rw [shift k.val k.isLt, ← hv k.val k.isLt]
    show BitVec.ofBool (decide (v < power k.val)) = 1#1 ↔ _
    generalize power k.val = p
    by_cases hlt : v < p <;> simp [hlt]
  unfold field
  rw [e, complement K h, shift K h]

/-- The power of two the kernel divides the codes' scale by, from the exponent field: one where the field is zero. -/
def scaleOf (f : BitVec 32) : EReal := Ideal.ofBits .f32 (Scalar.select (IntOp.cmpi CmpIPredicate.eq f 0#32) (1065353216#32) (IntOp.addi f 8388608#32))

/-- Its reciprocal, from the same field. -/
def inverseOf (f : BitVec 32) : EReal := Ideal.ofBits .f32 (Scalar.select (IntOp.cmpi CmpIPredicate.eq f 0#32) (1065353216#32) (IntOp.subi 2122317824#32 f))

theorem select_scale (K : ℕ) (h0 : 0 < K) (h : K < 253) :
    Scalar.select (IntOp.cmpi CmpIPredicate.eq (BitVec.ofNat 32 (K * 8388608)) 0#32) (1065353216#32) (IntOp.addi (BitVec.ofNat 32 (K * 8388608)) 8388608#32)
      = BitVec.ofNat 32 ((K + 1) * 8388608) := by
  have : ∀ K : Fin 253, 0 < K.val → Scalar.select (IntOp.cmpi CmpIPredicate.eq (BitVec.ofNat 32 (K.val * 8388608)) 0#32) (1065353216#32) (IntOp.addi (BitVec.ofNat 32 (K.val * 8388608)) 8388608#32)
      = BitVec.ofNat 32 ((K.val + 1) * 8388608) := by decide +kernel
  exact this ⟨K, h⟩ h0

theorem select_inverse (K : ℕ) (h0 : 0 < K) (h : K < 253) :
    Scalar.select (IntOp.cmpi CmpIPredicate.eq (BitVec.ofNat 32 (K * 8388608)) 0#32) (1065353216#32) (IntOp.subi 2122317824#32 (BitVec.ofNat 32 (K * 8388608)))
      = BitVec.ofNat 32 ((253 - K) * 8388608) := by
  have : ∀ K : Fin 253, 0 < K.val → Scalar.select (IntOp.cmpi CmpIPredicate.eq (BitVec.ofNat 32 (K.val * 8388608)) 0#32) (1065353216#32) (IntOp.subi 2122317824#32 (BitVec.ofNat 32 (K.val * 8388608)))
      = BitVec.ofNat 32 ((253 - K.val) * 8388608) := by decide +kernel
  exact this ⟨K, h⟩ h0

/-- The exponent the reference finds: that of the least power of two above the value, and zero where the group is zero. -/
def exponent (a v : EReal) : EReal :=
  Scalar.select (BitVec.ofBool (decide (a = 0))) 0
    (Ideal.liftRound Int.floor (Ideal.div (Ideal.log v) (Ideal.log (Ideal.ofBits .f32 0x40000000#32))) + Ideal.ofBits .f32 0x3F800000#32)

theorem two : Ideal.ofBits .f32 0x40000000#32 = ((2 : ℝ) : EReal) := by
  rw [show (0x40000000#32 : BitVec 32) = BitVec.ofNat 32 (128 * 8388608) by decide]
  exact (power_normal 128 (by norm_num) (by norm_num)).trans (by norm_num)

/-- The reference's exponent of a positive real. -/
theorem exponent_real (a : EReal) (ha : a ≠ 0) (r : ℝ) (hr : 0 < r) : exponent a r = (((⌊Real.log r / Real.log 2⌋ + 1 : ℤ) : ℝ) : EReal) := by
  have hl : Real.log 2 ≠ 0 := (Real.log_pos (by norm_num)).ne'
  have e : exponent a r = Ideal.liftRound Int.floor (Ideal.div (Ideal.log (r : EReal)) (Ideal.log ((2 : ℝ) : EReal))) + 1 := by
    unfold exponent
    rw [two, Ideal.ofBits_one_f32]
    simp [Scalar.select, ha]
  rw [e]
  have e1 : Ideal.log (r : EReal) = (Real.log r : EReal) := by show (if r ≤ 0 then _ else _) = _; rw [if_neg (by linarith)]
  have e2 : Ideal.log ((2 : ℝ) : EReal) = (Real.log 2 : EReal) := by show (if (2 : ℝ) ≤ 0 then _ else _) = _; rw [if_neg (by norm_num)]
  rw [e1, e2]
  unfold Ideal.div
  rw [if_neg (by exact_mod_cast hl), ← EReal.coe_inv, ← EReal.coe_mul, ← div_eq_mul_inv]
  show (((⌊Real.log r / Real.log 2⌋ : ℤ) : ℝ) : EReal) + 1 = _
  push_cast
  rfl

theorem exp2_int (e : ℤ) : Ideal.exp2 (((e : ℤ) : ℝ) : EReal) = (((2 : ℝ) ^ e : ℝ) : EReal) := by
  show ((Real.rpow 2 (e : ℝ) : ℝ) : EReal) = _
  rw [← Real.rpow_intCast]; rfl

/-- The kernel's scale is two to the reference's exponent, and its reciprocal two to minus that, for a value in the normal range. -/
theorem scale_real (a : EReal) (ha : a ≠ 0) (r : ℝ) (lo : (2 : ℝ) ^ (-126 : ℤ) ≤ r) (hi : r < (2 : ℝ) ^ (126 : ℤ)) :
    scaleOf (field r) = Ideal.exp2 (exponent a r) ∧ inverseOf (field r) = Ideal.exp2 (0 - exponent a r) := by
  have hr : 0 < r := lt_of_lt_of_le (zpow_pos (by norm_num) _) lo
  obtain ⟨j, hj⟩ : ∃ j : ℤ, j = ⌊Real.log r / Real.log 2⌋ := ⟨_, rfl⟩
  have hl : 0 < Real.log 2 := Real.log_pos (by norm_num)
  have l1 : (2 : ℝ) ^ j ≤ r := by
    have := Int.floor_le (Real.log r / Real.log 2)
    rw [← hj, le_div_iff₀ hl, ← Real.log_zpow] at this
    exact (Real.log_le_log_iff (zpow_pos (by norm_num) _) hr).mp this
  have l2 : r < (2 : ℝ) ^ (j + 1) := by
    have := Int.lt_floor_add_one (Real.log r / Real.log 2)
    rw [← hj, div_lt_iff₀ hl, ← Int.cast_one, ← Int.cast_add, ← Real.log_zpow] at this
    exact (Real.log_lt_log_iff hr (zpow_pos (by norm_num) _)).mp this
  have j1 : -126 < j + 1 := (zpow_lt_zpow_iff_right₀ (by norm_num : (1 : ℝ) < 2)).mp (lt_of_le_of_lt lo l2)
  have j2 : j < 126 := (zpow_lt_zpow_iff_right₀ (by norm_num : (1 : ℝ) < 2)).mp (lt_of_le_of_lt l1 hi)
  obtain ⟨K, hK⟩ : ∃ K : ℕ, (K : ℤ) = j + 127 := ⟨(j + 127).toNat, Int.toNat_of_nonneg (by omega)⟩
  have hf : field r = BitVec.ofNat 32 (K * 8388608) :=
    field_of r K (by omega) (lt_power_iff r K (by omega) (by omega) (by rw [hK]; ring_nf; exact l1) (by rw [hK]; ring_nf; rw [add_comm 1 j]; exact l2))
  rw [hf, exponent_real a ha r hr, ← hj]
  constructor
  · unfold scaleOf
    rw [select_scale K (by omega) (by omega), exp2_int]
    refine (power_normal (K + 1) (by omega) (by omega)).trans ?_
    congr 2; push_cast; omega
  · unfold inverseOf
    rw [select_inverse K (by omega) (by omega), zero_sub, ← EReal.coe_neg, ← Int.cast_neg, exp2_int]
    refine (power_normal (253 - K) (by omega) (by omega)).trans ?_
    congr 2; omega

/-- On a group of zeros both are one. -/
theorem scale_zero : scaleOf (field 0) = Ideal.exp2 (exponent 0 0) ∧ inverseOf (field 0) = Ideal.exp2 (0 - exponent 0 0) := by
  have hf : field 0 = 0#32 := field_of 0 0 (by omega) zero_lt_power_iff
  have he : exponent 0 0 = 0 := by simp [exponent, Scalar.select]
  have h1 : Ideal.exp2 0 = 1 := by
    show ((Real.rpow 2 0 : ℝ) : EReal) = 1
    rw [show Real.rpow 2 0 = 1 from Real.rpow_zero 2]; rfl
  have hs : scaleOf 0#32 = 1 := Ideal.ofBits_one_f32
  have hi : inverseOf 0#32 = 1 := Ideal.ofBits_one_f32
  rw [hf, he, sub_zero, h1]
  exact ⟨hs, hi⟩

theorem low : Ideal.ofBits .f32 0x00800000#32 = (((2 : ℝ) ^ (-126 : ℤ) : ℝ) : EReal) := by
  rw [show (0x00800000#32 : BitVec 32) = BitVec.ofNat 32 (1 * 8388608) by decide]
  exact (power_normal 1 (by norm_num) (by norm_num)).trans (by norm_num)

theorem high : Ideal.ofBits .f32 0x7E800000#32 = (((2 : ℝ) ^ (126 : ℤ) : ℝ) : EReal) := by
  rw [show (0x7E800000#32 : BitVec 32) = BitVec.ofNat 32 (253 * 8388608) by decide]
  exact (power_normal 253 (by norm_num) (by norm_num)).trans (by norm_num)

/-- The two computations agree on every group the precondition admits: it is zero, or its scaled maximum is in the normal range. -/
theorem scale_eq (a c : EReal) (h : a = 0 ∨ (Ideal.ofBits .f32 0x00800000#32 ≤ a * c ∧ a * c < Ideal.ofBits .f32 0x7E800000#32)) :
    scaleOf (field (a * c)) = Ideal.exp2 (exponent a (a * c)) ∧ inverseOf (field (a * c)) = Ideal.exp2 (0 - exponent a (a * c)) := by
  by_cases ha : a = 0
  · rw [ha, zero_mul]; exact scale_zero
  obtain ⟨h1, h2⟩ := h.resolve_left ha
  rw [low] at h1
  rw [high] at h2
  generalize a * c = v at h1 h2 ⊢
  induction v with
  | bot => exact absurd h1 (by simp)
  | top => exact absurd h2 (by simp)
  | coe r => exact scale_real a ha r (EReal.coe_le_coe_iff.mp h1) (EReal.coe_lt_coe_iff.mp h2)

end Cert.Powers

end
-- ==== Proof.Meaning.lean ====
module

public import proofs.«01_k».proof.Proof.Powers
public import Idealize.ShloMosaic.Lib.ValueIdx

@[expose] public section

noncomputable section

/-! What both programs compute, over the extended reals: activations rounded group by group to codes and a power-of-two scale, the two
products, and their sum. -/

namespace Cert.Meaning

open Idealize.ShloMosaic

/-- Lane `k` of group `g`. -/
abbrev lane (g : Fin 55) (k : Fin 128) : Fin 7040 := ⟨128 * g.val + k.val, by omega⟩

/-- The group a lane is in. -/
abbrev groupOf (l : Fin 7040) : Fin 55 := ⟨l.val / 128, by omega⟩

/-- The block of 128 columns a column is in. -/
abbrev blockOf (n : Fin 2304) : Fin 18 := ⟨n.val / 128, by omega⟩

/-- The `f32` nearest to `1 / 448`. -/
abbrev unit : EReal := Ideal.ofBits .f32 0x3B124925#32

variable (x : Fin 2048 → Fin 7040 → EReal)

/-- The greatest magnitude in a row's group. -/
def amax (r : Fin 2048) (g : Fin 55) : EReal := Finset.univ.fold max ⊥ fun k : Fin 128 => max (x r (lane g k)) (-x r (lane g k))

/-- The exponent of a row's group. -/
def expo (r : Fin 2048) (g : Fin 55) : EReal := Powers.exponent (amax x r g) (amax x r g * unit)

/-- The scale of a row's group. -/
def scale (r : Fin 2048) (g : Fin 55) : EReal := Ideal.exp2 (expo x r g)

/-- The code of a lane. -/
def code (r : Fin 2048) (l : Fin 7040) : EReal :=
  min (Ideal.ofBits .f32 0x43E00000#32) (max (Ideal.ofBits .f32 0xC3E00000#32) (x r l * Ideal.exp2 (0 - expo x r (groupOf l))))

/-- The code of a lane times its scale. -/
def deq (r : Fin 2048) (l : Fin 7040) : EReal := code x r l * scale x r (groupOf l)

variable (w : Fin 7040 → Fin 2304 → EReal) (s : Fin 55 → Fin 18 → EReal) (a : Fin 7040 → Fin 16 → EReal) (b : Fin 16 → Fin 2304 → EReal)

/-- The quantised product plus twice the adapter's. -/
def out (r : Fin 2048) (n : Fin 2304) : EReal :=
  ∑ k : Fin 7040, deq x r k * (w k n * s (groupOf k) (blockOf n))
    + Ideal.ofBits .f32 0x40000000#32 * ∑ j : Fin 16, (∑ k : Fin 7040, x r k * a k j) * b j n

/-- Every row's group is zero, or its scaled maximum is in the normal range. -/
def Ok : Prop := ∀ r g, amax x r g = 0
  ∨ (Ideal.ofBits .f32 0x00800000#32 ≤ amax x r g * unit ∧ amax x r g * unit < Ideal.ofBits .f32 0x7E800000#32)

theorem neg_inf_f32 : Ideal.ofBits .f32 0xFF800000#32 = ⊥ := by simp [Ideal.ofBits, Ideal.ieee]
theorem neg_inf_bf16 : Ideal.ofBits .bf16 0xFF80#16 = ⊥ := by simp [Ideal.ofBits, Ideal.ieee]

end Cert.Meaning

end
-- ==== Proof.Values.lean ====
module

public import proofs.«01_k».proof.Proof.Arrays
public import proofs.«01_k».proof.Proof.Meaning
public import Idealize.ShloMosaic.Lib.MatmulPlain

@[expose] public section

set_option maxRecDepth 16384

noncomputable section

/-! The kernel's results at an index, over the extended reals. -/

namespace Cert.KernelIdeal.Group

open Idealize.ShloMosaic Idealize.ShloMosaic.TcCoe Idealize.ShloMosaic.Tactic Cert.KernelIdeal.Gen

/-- The greatest magnitude of a row of one group. -/
def gmax (x : Vec Ideal S128x128 .bf16) (p : Fin 128) : EReal := Finset.univ.fold max ⊥ fun k : Fin 128 => max (x (ix2 p k)) (-x (ix2 p k))

/-- The exponent field of each row of a group. -/
theorem field_apply (x : Vec Ideal S128x128 .bf16) (p : Fin 128) : k0_pay27 x (ix2 p 0) = Powers.field (gmax x p * Meaning.unit) := by
  pointwise [k0_pay27, k0_pay26, k0_pay25]
  rw [Meaning.neg_inf_bf16]
  rfl

/-- The scale of each row of a group. -/
theorem scale_apply (x : Vec Ideal S128x128 .bf16) (p : Fin 128) : (scale x : FVec Ideal S128x1 .f32) (ix2 p 0) = Powers.scaleOf (Powers.field (gmax x p * Meaning.unit)) := by
  rw [← field_apply]
  unfold Powers.scaleOf
  pointwise [k0_pay29, k0_pay28]

/-- The codes of a group. -/
theorem code_apply (x : Vec Ideal S128x128 .bf16) (p q : Fin 128) : (code x : FVec Ideal S128x128 .fp8e4m3) (ix2 p q) =
    min (Ideal.ofBits .f32 0x43E00000#32) (max (Ideal.ofBits .f32 0xC3E00000#32) (x (ix2 p q) * Powers.inverseOf (Powers.field (gmax x p * Meaning.unit)))) := by
  rw [← field_apply]
  unfold Powers.inverseOf
  pointwise [k0_pay30, k0_pay31, k0_pay28, k0_pay26]

/-- The codes of a group times their scale. -/
theorem deq_apply (x : Vec Ideal S128x128 .bf16) (p q : Fin 128) : (deq x : FVec Ideal S128x128 .bf16) (ix2 p q) =
    (code x : FVec Ideal S128x128 .fp8e4m3) (ix2 p q) * (scale x : FVec Ideal S128x1 .f32) (ix2 p 0) := by
  show (k0_pay32 (k0_pay29 x) (k0_pay30 x) : FVec Ideal S128x128 .bf16) (ix2 p q) = (k0_pay31 (k0_pay30 x) : FVec Ideal S128x128 .fp8e4m3) (ix2 p q) * (k0_pay29 x : FVec Ideal S128x1 .f32) (ix2 p 0)
  generalize k0_pay29 x = s
  generalize k0_pay30 x = y
  unfold k0_pay32
  generalize k0_pay31 y = u
  pointwise

/-- One lane of the scales' block put in. -/
theorem put_apply (n : ℕ) (hn : n < 55) (s : FVec Ideal S128x1 .f32) (u : FVec Ideal S128x55 .f32) (p : Fin 128) (g : Fin 55) :
    (select (cmpi .eq (iota .tc S128x55 32 [1] iota_S128x55_d1_w32) (broadcast S128x55 (BitVec.ofNat 32 n)))
      (broadcastTo S128x55 (shapeCast S128x1 s shapeCasts_S128x1_S128x1) broadcasts_S128x1_S128x55) u : FVec Ideal S128x55 .f32) (ix2 p g)
      = if g.val = n then s (ix2 p 0) else u (ix2 p g) := by
  pointwise
  have e : IntOp.cmpi CmpIPredicate.eq (BitVec.ofNat 32 g.val) (BitVec.ofNat 32 n) = if g.val = n then 1#1 else 0#1 := by
    show BitVec.ofBool (BitVec.ofNat 32 g.val == BitVec.ofNat 32 n) = _
    have hiff : (BitVec.ofNat 32 g.val = BitVec.ofNat 32 n) ↔ g.val = n := by
      rw [← BitVec.toNat_inj, BitVec.toNat_ofNat, BitVec.toNat_ofNat, Nat.mod_eq_of_lt (by omega), Nat.mod_eq_of_lt (by omega)]
    by_cases h : g.val = n
    · rw [if_pos h, beq_iff_eq.mpr (hiff.mpr h)]; rfl
    · rw [if_neg h, beq_eq_false_iff_ne.mpr (fun k => h (hiff.mp k))]; rfl
  rw [e]
  split <;> rfl

/-- The scales' block after all groups before `n`. -/
theorem scales_apply (b : ℕ → Vec Ideal S128x128 .bf16) (p : Fin 128) (g : Fin 55) (n : ℕ) (hn : n ≤ 55) (h : g.val < n) :
    (scales b n : FVec Ideal S128x55 .f32) (ix2 p g) = (scale (b g.val) : FVec Ideal S128x1 .f32) (ix2 p 0) := by
  induction n with
  | zero => omega
  | succ n ih =>
    unfold scales
    rw [put_apply n (by omega)]
    by_cases e : g.val = n
    · rw [if_pos e, e]
    · rw [if_neg e]; exact ih (by omega) (by omega)

/-- The kernel's product of a row block. -/
theorem product_apply (a : Vec Ideal S16x7040 .bf16) (x y : Vec Ideal S128x7040 .bf16) (w : Vec Ideal S7040x2304 .bf16) (b : Vec Ideal S16x2304 .bf16) (p : Fin 128) (n : Fin 2304) :
    (k0_pay2 a x y w b : FVec Ideal S128x2304 .bf16) (ix2 p n)
      = ∑ k : Fin 7040, y (ix2 p k) * w (ix2 k n)
        + Ideal.ofBits .f32 0x40000000#32 * ∑ j : Fin 16, (∑ k : Fin 7040, x (ix2 p k) * a (ix2 j k)) * b (ix2 j n) := by
  unfold k0_pay2
  pointwise
  simp only [mul_comm (a _) (x _)]

/-- An array of rows as a function of row and lane. -/
abbrev grid (x : Vec Ideal S2048x7040 .bf16) : Fin 2048 → Fin 7040 → EReal := fun r l => x (ix2 r l)

/-- Row `r`'s place in its block. -/
abbrev rowIn (r : Fin 2048) : Fin 128 := ⟨r.val % 128, Nat.mod_lt _ (by decide)⟩

theorem rows_apply (x : Vec Ideal S2048x7040 .bf16) (r : Fin 2048) (l : Fin 7040) : rows x (r.val / 128) (ix2 (rowIn r) l) = grid x r l := by
  unfold rows
  show x (ix2 ⟨(128 * (r.val / 128) + r.val % 128) % 2048, _⟩ l) = x (ix2 r l)
  congr 2
  exact Fin.ext (by show (128 * (r.val / 128) + r.val % 128) % 2048 = r.val; omega)

theorem group_apply (x : Vec Ideal S128x7040 .bf16) (g : Fin 55) (p q : Fin 128) : group x g.val (ix2 p q) = x (ix2 p (Meaning.lane g q)) := by
  have hg := g.isLt
  unfold group
  refine congrArg x (funext fun a => Fin.ext ?_)
  fin_cases a
  · show 0 + 1 * p.val = p.val; omega
  · show 128 * (g.val % 55) + 1 * q.val = 128 * g.val + q.val; omega

/-- The greatest magnitude of a row's group. -/
theorem gmax_eq (x : Vec Ideal S2048x7040 .bf16) (r : Fin 2048) (g : Fin 55) :
    gmax (group (rows x (r.val / 128)) g.val) (rowIn r) = Meaning.amax (grid x) r g := by
  unfold gmax Meaning.amax
  refine congrArg (fun f => Finset.univ.fold max ⊥ f) (funext fun k => ?_)
  rw [group_apply, rows_apply]

variable (x : Vec Ideal S2048x7040 .bf16) (hx : Meaning.Ok (grid x))
include hx

/-- The scale of a row's group, under the precondition. -/
theorem scale_eq (r : Fin 2048) (g : Fin 55) :
    (scale (group (rows x (r.val / 128)) g.val) : FVec Ideal S128x1 .f32) (ix2 (rowIn r) 0) = Meaning.scale (grid x) r g := by
  rw [scale_apply, gmax_eq]
  exact (Powers.scale_eq _ _ (hx r g)).1

/-- The codes of a row block, under the precondition. -/
theorem codes_eq (r : Fin 2048) (l : Fin 7040) :
    (codes (rows x (r.val / 128)) : FVec Ideal S128x7040 .fp8e4m3) (ix2 (rowIn r) l) = Meaning.code (grid x) r l := by
  have hl : l = Meaning.lane (Meaning.groupOf l) ⟨l.val % 128, Nat.mod_lt _ (by decide)⟩ := Fin.ext (by show l.val = 128 * (l.val / 128) + l.val % 128; omega)
  show (code (group (rows x (r.val / 128)) (Meaning.groupOf l).val) : FVec Ideal S128x128 .fp8e4m3) (ix2 (rowIn r) ⟨l.val % 128, _⟩) = _
  rw [code_apply, gmax_eq, group_apply, ← hl, rows_apply, (Powers.scale_eq _ _ (hx r (Meaning.groupOf l))).2]
  rfl

/-- The dequantised row block, under the precondition. -/
theorem deqs_eq (r : Fin 2048) (l : Fin 7040) :
    (deqs (rows x (r.val / 128)) : FVec Ideal S128x7040 .bf16) (ix2 (rowIn r) l) = Meaning.deq (grid x) r l := by
  show (deq (group (rows x (r.val / 128)) (Meaning.groupOf l).val) : FVec Ideal S128x128 .bf16) (ix2 (rowIn r) ⟨l.val % 128, _⟩) = _
  rw [deq_apply, scale_eq x hx]
  exact congrArg (· * _) (codes_eq x hx r l)

omit hx

/-- A transposed matrix read at an index. -/
theorem scaleT_apply (m : (ℓ : Loc nD τ sig) → Buf (Elt Ideal) ℓ) (c : Dev nD) (p : Fin 18) (q : Fin 55) :
    (scaleT m c : Vec Ideal S18x55 .f32) (ix2 p q) = (m ((c : Thread nD τ).loc main_arg2) : Vec Ideal S55x18 .f32) (ix2 q p) := by
  unfold scaleT
  generalize m ((c : Thread nD τ).loc main_arg2) = s
  change Vec Ideal S55x18 .f32 at s
  pointwise

/-- The adapter's first factor read at an index. -/
theorem loraT_apply (m : (ℓ : Loc nD τ sig) → Buf (Elt Ideal) ℓ) (c : Dev nD) (j : Fin 16) (k : Fin 7040) :
    (loraT m c : Vec Ideal S16x7040 .bf16) (ix2 j k) = (m ((c : Thread nD τ).loc main_arg3) : Vec Ideal S7040x16 .bf16) (ix2 k j) := by
  unfold loraT
  generalize m ((c : Thread nD τ).loc main_arg3) = s
  change Vec Ideal S7040x16 .bf16 at s
  pointwise

/-- The dequantised weights read at an index. -/
theorem ws_apply (m : (ℓ : Loc nD τ sig) → Buf (Elt Ideal) ℓ) (c : Dev nD) (k : Fin 7040) (n : Fin 2304) :
    (ws m c : FVec Ideal S7040x2304 .bf16) (ix2 k n) =
      @HMul.hMul EReal EReal EReal instHMul (m ((c : Thread nD τ).loc main_arg1) (ix2 k n))
        (m ((c : Thread nD τ).loc main_arg2) (ix2 (Meaning.groupOf k) (Meaning.blockOf n))) :=
  congrArg (HMul.hMul (α := EReal) ((m ((c : Thread nD τ).loc main_arg1) : Vec Ideal S7040x2304 .fp8e4m3) (ix2 k n)))
    (scaleT_apply m c (Meaning.blockOf n) (Meaning.groupOf k))

variable (m : (ℓ : Loc nD τ sig) → Buf (Elt Ideal) ℓ)

/-- The activations of a device. -/
abbrev X (c : Dev nD) : Fin 2048 → Fin 7040 → EReal := grid (xs m c)

/-- The first result array. -/
theorem value5 (c : Dev nD) (hx : Meaning.Ok (X m c)) (r : Fin 2048) (n : Fin 2304) : final5 m c (ix2 r n)
    = Meaning.out (X m c) (fun k n => (m ((c : Thread nD τ).loc main_arg1) : Vec Ideal S7040x2304 .fp8e4m3) (ix2 k n))
        (fun p q => (m ((c : Thread nD τ).loc main_arg2) : Vec Ideal S55x18 .f32) (ix2 p q))
        (fun k j => (m ((c : Thread nD τ).loc main_arg3) : Vec Ideal S7040x16 .bf16) (ix2 k j))
        (fun j n => (m ((c : Thread nD τ).loc main_arg4) : Vec Ideal S16x2304 .bf16) (ix2 j n)) r n := by
  refine (product_apply (loraT m c) (rows (xs m c) (r.val / 128)) (deqs (rows (xs m c) (r.val / 128))) (ws m c) _ (rowIn r) n).trans ?_
  unfold Meaning.out
  refine congrArg₂ (· + ·) (Finset.sum_congr rfl fun k _ => ?_) (congrArg _ (Finset.sum_congr rfl fun j _ => ?_))
  · rw [deqs_eq (xs m c) hx, ws_apply]
  · refine congrArg (· * _) (Finset.sum_congr rfl fun k _ => ?_)
    rw [rows_apply, loraT_apply]

/-- The second result array. -/
theorem value6 (c : Dev nD) (hx : Meaning.Ok (X m c)) (r : Fin 2048) (l : Fin 7040) : final6 m c (ix2 r l) = Meaning.code (X m c) r l :=
  codes_eq (xs m c) hx r l

/-- The third result array. -/
theorem value7 (c : Dev nD) (hx : Meaning.Ok (X m c)) (r : Fin 2048) (g : Fin 55) : final7 m c (ix2 r g) = Meaning.scale (X m c) r g :=
  (scales_apply _ (rowIn r) g 55 le_rfl g.isLt).trans (scale_eq (xs m c) hx r g)

end Cert.KernelIdeal.Group

end
-- ==== Proof.Result.lean ====
module

public import proofs.«01_k».proof.Proof.Gen.ReferenceIdeal.Frame
public import Idealize.ShloMosaic.Lib.Pipeline.Value
public import Idealize.ShloMosaic.Lib.Pipeline.ValueKit
public import Idealize.ShloMosaic.Lib.Pipeline.ValueKit.Geometry
public import Idealize.ShloMosaic.Lib.Claim

@[expose] public section

set_option maxRecDepth 16384

noncomputable section

/-! The reference's run: its three result arrays as its body's payloads of the whole argument arrays. -/

namespace Cert.ReferenceIdeal.Result

open Cert.ReferenceIdeal Cert.ReferenceIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v1_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-- The activations as rows. -/
abbrev xs (c : Dev nD) : Vec F S2048x7040 .bf16 := shapeCast S2048x7040 (m ((c : Thread nD τ).loc main_arg0)) shapeCasts_S4x512x7040_S2048x7040

theorem V0 (c : Dev nD) : V m c main_v0 = xs m c := by entry_read; rfl

theorem idx0 : ∀ t : Fin cfg0.N, win0_0.index t = ![0, 0] := (by decide +kernel : ∀ t : Fin grid0.N, win0_0.index t = ![0, 0])

/-- The one grid point reads operand 0 whole. -/
theorem iblk0 (c : Dev nD) (t : Fin cfg0.N) : (iblk m c 0 t : Vec F S2048x7040 .bf16) = xs m c := by
  rw [← V0 m c]; funext (y : S2048x7040.Idx)
  blk_simp [iblk]
  blk_ext [idx0]

theorem idx1 : ∀ t : Fin cfg0.N, win0_1.index t = ![0, 0] := (by decide +kernel : ∀ t : Fin grid0.N, win0_1.index t = ![0, 0])

/-- The one grid point reads operand 1 whole. -/
theorem iblk1 (c : Dev nD) (t : Fin cfg0.N) : (iblk m c 1 t : Vec F S7040x2304 .fp8e4m3) = m ((c : Thread nD τ).loc main_arg1) := by
  rw [← V_main_arg1 m c]; funext (y : S7040x2304.Idx)
  blk_simp [iblk]
  blk_ext [idx1]

theorem idx2 : ∀ t : Fin cfg0.N, win0_2.index t = ![0, 0] := (by decide +kernel : ∀ t : Fin grid0.N, win0_2.index t = ![0, 0])

/-- The one grid point reads operand 2 whole. -/
theorem iblk2 (c : Dev nD) (t : Fin cfg0.N) : (iblk m c 2 t : Vec F S55x18 .f32) = m ((c : Thread nD τ).loc main_arg2) := by
  rw [← V_main_arg2 m c]; funext (y : S55x18.Idx)
  blk_simp [iblk]
  blk_ext [idx2]

theorem idx3 : ∀ t : Fin cfg0.N, win0_3.index t = ![0, 0] := (by decide +kernel : ∀ t : Fin grid0.N, win0_3.index t = ![0, 0])

/-- The one grid point reads operand 3 whole. -/
theorem iblk3 (c : Dev nD) (t : Fin cfg0.N) : (iblk m c 3 t : Vec F S7040x16 .bf16) = m ((c : Thread nD τ).loc main_arg3) := by
  rw [← V_main_arg3 m c]; funext (y : S7040x16.Idx)
  blk_simp [iblk]
  blk_ext [idx3]

theorem idx4 : ∀ t : Fin cfg0.N, win0_4.index t = ![0, 0] := (by decide +kernel : ∀ t : Fin grid0.N, win0_4.index t = ![0, 0])

/-- The one grid point reads operand 4 whole. -/
theorem iblk4 (c : Dev nD) (t : Fin cfg0.N) : (iblk m c 4 t : Vec F S16x2304 .bf16) = m ((c : Thread nD τ).loc main_arg4) := by
  rw [← V_main_arg4 m c]; funext (y : S16x2304.Idx)
  blk_simp [iblk]
  blk_ext [idx4]

theorem zeros : (![0, 0] : Fin 2 → ℕ) = fun _ => 0 := funext fun a => by fin_cases a <;> rfl

/-- What the body leaves in window 5's block. -/
theorem out5 (x0 : Vec F S2048x7040 .bf16) (x1 : Vec F S7040x2304 .fp8e4m3) (x2 : Vec F S55x18 .f32) (x3 : Vec F S7040x16 .bf16)
    (x4 : Vec F S16x2304 .bf16) : out0_5 x0 x1 x2 x3 x4 = k0_pay1 (k0_pay3 x0) (k0_pay8 x0) (k0_pay9 x1 x2) x3 x4 := by
  unfold out0_5
  rw [View.canon_unit_zero zeros]
  simp only [View.ld_unit_zero (S := S2048x7040) zeros, View.ld_unit_zero (S := S7040x2304) zeros, View.ld_unit_zero (S := S55x18) zeros, View.ld_unit_zero (S := S7040x16) zeros, View.ld_unit_zero (S := S16x2304) zeros]

theorem idx5 : ∀ t : Fin cfg0.N, win0_5.index t = ![0, 0] := (by decide +kernel : ∀ t : Fin grid0.N, win0_5.index t = ![0, 0])

/-- The array of window 5 after the run. -/
theorem arr5 (c : Dev nD) : (dats m 0 c).arrAt 5 cfg0.N = (k0_pay1 (k0_pay3 (xs m c)) (k0_pay8 (xs m c)) (k0_pay9 (m ((c : Thread nD τ).loc main_arg1)) (m ((c : Thread nD τ).loc main_arg2))) (m ((c : Thread nD τ).loc main_arg3)) (m ((c : Thread nD τ).loc main_arg4)) : Vec F S2048x2304 .bf16) := by
  refine (dats m 0 c).arrAt_eq_of_covers 5 _ (by decide +kernel) fun t hf y => ?_
  change S2048x2304.Idx at y
  blk_simp
  rw [after0_5, out5, iblk0, iblk1, iblk2, iblk3, iblk4]
  refine congrArg _ ?_
  blk_ext [idx5]

/-- What the body leaves in window 6's block. -/
theorem out6 (x0 : Vec F S2048x7040 .bf16) (x1 : Vec F S7040x2304 .fp8e4m3) (x2 : Vec F S55x18 .f32) (x3 : Vec F S7040x16 .bf16)
    (x4 : Vec F S16x2304 .bf16) : out0_6 x0 x1 x2 x3 x4 = k0_pay2 (k0_pay7 x0) := by
  unfold out0_6
  rw [View.canon_unit_zero zeros]
  simp only [View.ld_unit_zero (S := S2048x7040) zeros]

theorem idx6 : ∀ t : Fin cfg0.N, win0_6.index t = ![0, 0] := (by decide +kernel : ∀ t : Fin grid0.N, win0_6.index t = ![0, 0])

/-- The array of window 6 after the run. -/
theorem arr6 (c : Dev nD) : (dats m 0 c).arrAt 6 cfg0.N = (k0_pay2 (k0_pay7 (xs m c)) : Vec F S2048x7040 .fp8e4m3) := by
  refine (dats m 0 c).arrAt_eq_of_covers 6 _ (by decide +kernel) fun t hf y => ?_
  change S2048x7040.Idx at y
  blk_simp
  rw [after0_6, out6, iblk0]
  refine congrArg _ ?_
  blk_ext [idx6]

/-- What the body leaves in window 7's block. -/
theorem out7 (x0 : Vec F S2048x7040 .bf16) (x1 : Vec F S7040x2304 .fp8e4m3) (x2 : Vec F S55x18 .f32) (x3 : Vec F S7040x16 .bf16)
    (x4 : Vec F S16x2304 .bf16) : out0_7 x0 x1 x2 x3 x4 = k0_pay6 x0 := by
  unfold out0_7
  rw [View.canon_unit_zero zeros]
  simp only [View.ld_unit_zero (S := S2048x7040) zeros]

theorem idx7 : ∀ t : Fin cfg0.N, win0_7.index t = ![0, 0] := (by decide +kernel : ∀ t : Fin grid0.N, win0_7.index t = ![0, 0])

/-- The array of window 7 after the run. -/
theorem arr7 (c : Dev nD) : (dats m 0 c).arrAt 7 cfg0.N = (k0_pay6 (xs m c) : Vec F S2048x55 .f32) := by
  refine (dats m 0 c).arrAt_eq_of_covers 7 _ (by decide +kernel) fun t hf y => ?_
  change S2048x55.Idx at y
  blk_simp
  rw [after0_7, out7, iblk0]
  refine congrArg _ ?_
  blk_ext [idx7]

end Cert.ReferenceIdeal.Result

end
-- ==== Proof.RefValues.lean ====
module

public import proofs.«01_k».proof.Proof.Result
public import proofs.«01_k».proof.Proof.Meaning
public import Idealize.ShloMosaic.Lib.Pointwise
public import Idealize.ShloMosaic.Lib.MatmulPlain

@[expose] public section

set_option maxRecDepth 16384

noncomputable section

/-! The reference's results at an index. -/

namespace Cert.ReferenceIdeal.Result

open Cert.ReferenceIdeal Cert.ReferenceIdeal.Gen Idealize.ShloMosaic Idealize.ShloMosaic.TcCoe Idealize.ShloMosaic.Tactic

/-- An array of rows as a function of row and lane. -/
abbrev grid (x : Vec Ideal S2048x7040 .bf16) : Fin 2048 → Fin 7040 → EReal := fun r l => x (ix2 r l)

/-- The reference's exponent, operation by operation. -/
theorem exponent_ops (a v : EReal) : Scalar.select (FloatOps.cmpf (F := Ideal) (φ := .f32) .oeq a (Scalar.ofBits .f32 0x00000000#32)) (Scalar.ofBits (F := Ideal) .f32 0x00000000#32)
    (FloatOps.addf (F := Ideal) (φ := .f32) (FloatOps.floor (F := Ideal) (φ := .f32) (FloatOps.divf (F := Ideal) (φ := .f32) (FloatOps.log (F := Ideal) (φ := .f32) v)
      (FloatOps.log (F := Ideal) (φ := .f32) (Scalar.ofBits .f32 0x40000000#32)))) (Scalar.ofBits .f32 0x3F800000#32)) = Powers.exponent a v := by
  have h0 : (Scalar.ofBits .f32 0x00000000#32 : Ideal .f32) = (0 : EReal) := Ideal.ofBits_zero_f32
  rw [h0]
  rfl

theorem pay4 (x : Vec Ideal S2048x7040 .bf16) (r : Fin 2048) (g : Fin 55) (l : Fin 128) :
    (k0_pay4 x : FVec Ideal S2048x55x128 .f32) (ix3 r g l) = grid x r (Meaning.lane g l) := by
  pointwise [k0_pay4, k0_pay3]
  unfold grid Meaning.lane
  congr 2
  exact Fin.ext (by show g.val * 128 + l.val = 128 * g.val + l.val; omega)

theorem max_group (y : FVec Ideal S2048x55x128 .f32) (r : Fin 2048) (g : Fin 55) :
    (multiReduction .maximumf [2] S2048x55 (absf y) 0xFF800000#32 reduces_S2048x55x128_S2048x55 (.inl rfl) rfl : FVec Ideal S2048x55 .f32) (ix2 r g)
      = Finset.univ.fold max ⊥ fun k : Fin 128 => max (y (ix3 r g k)) (-y (ix3 r g k)) := by
  pointwise
  rw [Meaning.neg_inf_f32]
  rfl

/-- The greatest magnitude of a group. -/
theorem amax_eq (x : Vec Ideal S2048x7040 .bf16) (r : Fin 2048) (g : Fin 55) :
    (multiReduction .maximumf [2] S2048x55 (absf (k0_pay4 x)) 0xFF800000#32 reduces_S2048x55x128_S2048x55 (.inl rfl) rfl : FVec Ideal S2048x55 .f32) (ix2 r g)
      = Meaning.amax (grid x) r g := by
  rw [max_group]
  unfold Meaning.amax
  refine congrArg (fun f => Finset.univ.fold max ⊥ f) (funext fun k => ?_)
  rw [pay4]

/-- The exponents from the greatest magnitudes. -/
theorem exponents (a : FVec Ideal S2048x55 .f32) (j : S2048x55.Idx) :
    (select (cmpf .oeq a (broadcast S2048x55 (Scalar.ofBits (F := Ideal) .f32 0x00000000#32))) (broadcast S2048x55 (Scalar.ofBits (F := Ideal) .f32 0x00000000#32))
      (addf (floor (divf (log (mulf a (broadcast S2048x55 (Scalar.ofBits .f32 0x3B124925#32)))) (log (broadcast S2048x55 (Scalar.ofBits .f32 0x40000000#32)))))
        (broadcast S2048x55 (Scalar.ofBits .f32 0x3F800000#32))) : FVec Ideal S2048x55 .f32) j = Powers.exponent (a j) (a j * Meaning.unit) :=
  exponent_ops (a j) (a j * Meaning.unit)

attribute [local irreducible] k0_pay4 Powers.exponent in
/-- The reference's exponents. -/
theorem pay5 (x : Vec Ideal S2048x7040 .bf16) (r : Fin 2048) (g : Fin 55) : (k0_pay5 x : FVec Ideal S2048x55 .f32) (ix2 r g) = Meaning.expo (grid x) r g := by
  unfold Meaning.expo
  simp only [← amax_eq x r g]
  exact exponents (multiReduction .maximumf [2] S2048x55 (absf (k0_pay4 x)) 0xFF800000#32 reduces_S2048x55x128_S2048x55 (.inl rfl) rfl) (ix2 r g)

theorem exp2_apply (e : FVec Ideal S2048x55 .f32) (j : S2048x55.Idx) : (exp2 e : FVec Ideal S2048x55 .f32) j = Ideal.exp2 (e j) := rfl

/-- The reference's scales. -/
theorem pay6 (x : Vec Ideal S2048x7040 .bf16) (r : Fin 2048) (g : Fin 55) : (k0_pay6 x : FVec Ideal S2048x55 .f32) (ix2 r g) = Meaning.scale (grid x) r g :=
  (exp2_apply (k0_pay5 x) (ix2 r g)).trans (congrArg Ideal.exp2 (pay5 x r g))

theorem minus (e : FVec Ideal S2048x55 .f32) (j : S2048x55.Idx) :
    (exp2 (subf (broadcast S2048x55 (Scalar.ofBits (F := Ideal) .f32 0x00000000#32)) e) : FVec Ideal S2048x55 .f32) j = Ideal.exp2 (0 - e j) := by
  have h0 : (Scalar.ofBits .f32 0x00000000#32 : Ideal .f32) = (0 : EReal) := Ideal.ofBits_zero_f32
  rw [h0]
  rfl

/-- The reference's codes, group by group. -/
theorem pay7 (x : Vec Ideal S2048x7040 .bf16) (r : Fin 2048) (g : Fin 55) (l : Fin 128) (k : Fin 7040) (h : k = Meaning.lane g l) :
    (k0_pay7 x : FVec Ideal S2048x55x128 .fp8e4m3) (ix3 r g l) = Meaning.code (grid x) r k := by
  have hg : Meaning.groupOf k = g := Fin.ext (by subst h; show (128 * g.val + l.val) / 128 = g.val; omega)
  unfold Meaning.code
  rw [hg, ← pay5, ← minus, h, ← pay4]
  unfold k0_pay7
  generalize (exp2 (subf (broadcast S2048x55 (Scalar.ofBits (F := Ideal) .f32 0x00000000#32)) (k0_pay5 x)) : FVec Ideal S2048x55 .f32) = e
  generalize k0_pay4 x = y
  pointwise

/-- The reference's codes. -/
theorem codes (x : Vec Ideal S2048x7040 .bf16) (r : Fin 2048) (l : Fin 7040) :
    (k0_pay2 (k0_pay7 x) : FVec Ideal S2048x7040 .fp8e4m3) (ix2 r l) = Meaning.code (grid x) r l := by
  rw [← pay7 x r (Meaning.groupOf l) ⟨l.val % 128, by omega⟩ l (Fin.ext (by show l.val = 128 * (l.val / 128) + l.val % 128; omega))]
  generalize k0_pay7 x = y
  pointwise [k0_pay2]

/-- The reference's codes times their scale. -/
theorem pay8 (x : Vec Ideal S2048x7040 .bf16) (r : Fin 2048) (l : Fin 7040) : (k0_pay8 x : FVec Ideal S2048x7040 .bf16) (ix2 r l) = Meaning.deq (grid x) r l := by
  unfold Meaning.deq
  rw [← pay6, ← pay7 x r (Meaning.groupOf l) ⟨l.val % 128, by omega⟩ l (Fin.ext (by show l.val = 128 * (l.val / 128) + l.val % 128; omega))]
  unfold k0_pay8
  generalize k0_pay7 x = y
  generalize k0_pay6 x = s
  pointwise

/-- The reference's dequantised weights. -/
theorem pay9 (w : Vec Ideal S7040x2304 .fp8e4m3) (s : Vec Ideal S55x18 .f32) (k : Fin 7040) (n : Fin 2304) :
    (shapeCast S7040x2304 (k0_pay9 w s : FVec Ideal S55x128x18x128 .bf16) shapeCasts_S55x128x18x128_S7040x2304 : FVec Ideal S7040x2304 .bf16) (ix2 k n)
      = w (ix2 k n) * s (ix2 (Meaning.groupOf k) (Meaning.blockOf n)) := by
  pointwise [k0_pay9]

/-- The reference's first result. -/
theorem pay1 (x y : FVec Ideal S2048x7040 .bf16) (w : FVec Ideal S55x128x18x128 .bf16) (a : Vec Ideal S7040x16 .bf16) (b : Vec Ideal S16x2304 .bf16) (r : Fin 2048) (n : Fin 2304) :
    (k0_pay1 x y w a b : FVec Ideal S2048x2304 .bf16) (ix2 r n)
      = ∑ k : Fin 7040, y (ix2 r k) * (shapeCast S7040x2304 w shapeCasts_S55x128x18x128_S7040x2304 : FVec Ideal S7040x2304 .bf16) (ix2 k n)
        + Ideal.ofBits .f32 0x40000000#32 * ∑ j : Fin 16, (∑ k : Fin 7040, x (ix2 r k) * a (ix2 k j)) * b (ix2 j n) := by
  unfold k0_pay1
  generalize (shapeCast S7040x2304 w shapeCasts_S55x128x18x128_S7040x2304 : FVec Ideal S7040x2304 .bf16) = u
  pointwise

variable (m : (ℓ : Loc nD τ sig) → Buf (Elt Ideal) ℓ)

/-- The activations of a device. -/
abbrev X (c : Dev nD) : Fin 2048 → Fin 7040 → EReal := grid (xs m c)

/-- The first result array. -/
theorem final5 (c : Dev nD) (r : Fin 2048) (n : Fin 2304) : ((dats m 0 c).arrAt 5 cfg0.N : Vec Ideal S2048x2304 .bf16) (ix2 r n)
    = Meaning.out (X m c) (fun k n => (m ((c : Thread nD τ).loc main_arg1) : Vec Ideal S7040x2304 .fp8e4m3) (ix2 k n))
        (fun p q => (m ((c : Thread nD τ).loc main_arg2) : Vec Ideal S55x18 .f32) (ix2 p q))
        (fun k j => (m ((c : Thread nD τ).loc main_arg3) : Vec Ideal S7040x16 .bf16) (ix2 k j))
        (fun j n => (m ((c : Thread nD τ).loc main_arg4) : Vec Ideal S16x2304 .bf16) (ix2 j n)) r n := by
  rw [arr5]
  refine (pay1 (k0_pay3 (xs m c)) (k0_pay8 (xs m c)) _ _ _ r n).trans ?_
  unfold Meaning.out
  refine congrArg₂ (· + ·) (Finset.sum_congr rfl fun k _ => ?_) ?_
  · rw [pay8, pay9]
  · have h3 : (k0_pay3 (xs m c) : FVec Ideal S2048x7040 .bf16) = xs m c := by unfold k0_pay3; exact shapeCast_self _ _
    rw [h3]

/-- The second result array. -/
theorem final6 (c : Dev nD) (r : Fin 2048) (l : Fin 7040) : ((dats m 0 c).arrAt 6 cfg0.N : Vec Ideal S2048x7040 .fp8e4m3) (ix2 r l) = Meaning.code (X m c) r l := by
  rw [arr6]; exact codes (xs m c) r l

/-- The third result array. -/
theorem final7 (c : Dev nD) (r : Fin 2048) (g : Fin 55) : ((dats m 0 c).arrAt 7 cfg0.N : Vec Ideal S2048x55 .f32) (ix2 r g) = Meaning.scale (X m c) r g := by
  rw [arr7]; exact pay6 (xs m c) r g

end Cert.ReferenceIdeal.Result

end
-- ==== Proof.Agree.lean ====
module

public import proofs.«01_k».proof.Proof.Values
public import proofs.«01_k».proof.Proof.RefValues

@[expose] public section

set_option maxRecDepth 16384

noncomputable section

/-! The two programs' result arrays are the same arrays when their arguments are. -/

namespace Cert.Agree

open Idealize.ShloMosaic Idealize.ShloMosaic.TcCoe

/-- Two arrays of two axes equal at every row and column are equal. -/
theorem ext2 {n k : Nat} {α : Type} (u v : (⟨2, ![n, k]⟩ : Shape).Idx → α) (h : ∀ i j, u (ix2 i j) = v (ix2 i j)) : u = v := by
  funext i
  rw [← ix2_eta i]
  exact h _ _

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Equal activations, read by row and lane. -/
theorem X_eq (h0 : m' ((c : Thread ReferenceIdeal.nD ReferenceIdeal.τ).loc ReferenceIdeal.main_arg0) = m ((c : Thread KernelIdeal.nD KernelIdeal.τ).loc KernelIdeal.main_arg0)) :
    ReferenceIdeal.Result.X m' c = KernelIdeal.Group.X m c :=
  congrArg (fun v : Vec Ideal KernelIdeal.S4x512x7040 .bf16 => KernelIdeal.Group.grid (shapeCast KernelIdeal.S2048x7040 v KernelIdeal.Gen.shapeCasts_S4x512x7040_S2048x7040)) h0

/-- The first results are the same array. -/
theorem first (hx : Meaning.Ok (KernelIdeal.Group.X m c))
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4)) :
    (ReferenceIdeal.Gen.dats m' 0 c).arrAt 5 ReferenceIdeal.cfg0.N = (KernelIdeal.Gen.dats m 0 c).arrAt 5 KernelIdeal.cfg0.N := by
  refine (ext2 (n := 2048) (k := 2304) (α := EReal) _ _ fun r n => ?_).trans (KernelIdeal.Group.arr5 m c).symm
  refine (ReferenceIdeal.Result.final5 m' c r n).trans (Eq.trans ?_ (KernelIdeal.Group.value5 m c hx r n).symm)
  rw [X_eq m m' c h0, h1, h2, h3, h4]

/-- The codes are the same array. -/
theorem second (hx : Meaning.Ok (KernelIdeal.Group.X m c))
    (h0 : m' ((c : Thread ReferenceIdeal.nD ReferenceIdeal.τ).loc ReferenceIdeal.main_arg0) = m ((c : Thread KernelIdeal.nD KernelIdeal.τ).loc KernelIdeal.main_arg0)) :
    (ReferenceIdeal.Gen.dats m' 0 c).arrAt 6 ReferenceIdeal.cfg0.N = (KernelIdeal.Gen.dats m 0 c).arrAt 6 KernelIdeal.cfg0.N := by
  refine (ext2 (n := 2048) (k := 7040) (α := EReal) _ _ fun r l => ?_).trans (KernelIdeal.Group.arr6 m c).symm
  refine (ReferenceIdeal.Result.final6 m' c r l).trans (Eq.trans ?_ (KernelIdeal.Group.value6 m c hx r l).symm)
  rw [X_eq m m' c h0]

/-- The scales are the same array. -/
theorem third (hx : Meaning.Ok (KernelIdeal.Group.X m c))
    (h0 : m' ((c : Thread ReferenceIdeal.nD ReferenceIdeal.τ).loc ReferenceIdeal.main_arg0) = m ((c : Thread KernelIdeal.nD KernelIdeal.τ).loc KernelIdeal.main_arg0)) :
    (ReferenceIdeal.Gen.dats m' 0 c).arrAt 7 ReferenceIdeal.cfg0.N = (KernelIdeal.Gen.dats m 0 c).arrAt 7 KernelIdeal.cfg0.N := by
  refine (ext2 (n := 2048) (k := 55) (α := EReal) _ _ fun r g => ?_).trans (KernelIdeal.Group.arr7 m c).symm
  refine (ReferenceIdeal.Result.final7 m' c r g).trans (Eq.trans ?_ (KernelIdeal.Group.value7 m c hx r g).symm)
  rw [X_eq m m' c h0]

end Cert.Agree

end
-- ==== Proof.Range.lean ====
module

public import proofs.«01_k».proof.Proof.Values
public import proofs.«01_k».proof.Proof.Gen.Pre_scale_in_range
public import proofs.«01_k».proof.Defs
public import Idealize.ShloMosaic.Lib.ReduceAll
public import Idealize.ShloMosaic.Lib.KernelVsHost
public import Idealize.ShloMosaic.Lib.Pointwise

@[expose] public section

set_option maxRecDepth 16384

noncomputable section

/-! The precondition read back: every group of the activations is zero, or its scaled maximum is in the normal range. -/

namespace Cert.Range

open Cert.Pre_scale_in_range Idealize.ShloMosaic Idealize.ShloMosaic.Tactic Cert.Pre_scale_in_range.Facts

variable [Cert.Pre_scale_in_range.Facts]

/-- The activations split into groups, read at an index. -/
theorem split_apply (x : FVec Ideal S4x512x7040 .bf16) (h : S4x512x7040.ShapeCasts KernelIdeal.S2048x7040) (r : Fin 2048) (g : Fin 55) (k : Fin 128) :
    (shapeCast S2048x55x128 (extf .f32 x bitsLt_bf16_f32) shapeCasts_S4x512x7040_S2048x55x128 : FVec Ideal S2048x55x128 .f32) (ix3 r g k)
      = (shapeCast KernelIdeal.S2048x7040 x h : FVec Ideal KernelIdeal.S2048x7040 .bf16) (ix2 r (Meaning.lane g k)) := by
  pointwise
  congr 2
  exact Fin.ext (by show g.val * 128 + k.val = 128 * g.val + k.val; omega)

theorem reduces_groups : S2048x55x128.Reduces [2] S2048x55 := by decide +kernel

/-- The greatest magnitude of each group, as the precondition computes it. -/
theorem max_group (y : FVec Ideal S2048x55x128 .f32) (r : Fin 2048) (g : Fin 55) :
    (Host.reduce FloatOps.maximumf (Host.absf y) (constant (F := Ideal) S_ .f32 0xFF800000#32) reducesTo_S2048x55x128_S2048x55_d2 h_S_ : FVec Ideal S2048x55 .f32) (ix2 r g)
      = Finset.univ.fold max ⊥ fun k : Fin 128 => max (y (ix3 r g k)) (-y (ix3 r g k)) := by
  rw [hostReduce_maximumf_eq_multiReduction (s := S2048x55x128) (t := S2048x55) (φ := .f32) (Host.absf y) 0xFF800000#32 reducesTo_S2048x55x128_S2048x55_d2 h_S_ reduces_groups (.inl rfl) rfl]
  pointwise
  rw [Meaning.neg_inf_f32]
  rfl

/-- One element of the array of comparisons. -/
theorem element (a : EReal) (h : IntOp.ori (FloatOps.cmpf (F := Ideal) (φ := .f32) .oeq a (Scalar.ofBits (F := Ideal) .f32 0x00000000#32))
      (IntOp.andi (FloatOps.cmpf (F := Ideal) (φ := .f32) .oge (FloatOps.mulf (F := Ideal) (φ := .f32) a (Scalar.ofBits (F := Ideal) .f32 0x3B124925#32)) (Scalar.ofBits (F := Ideal) .f32 0x00800000#32))
        (FloatOps.cmpf (F := Ideal) (φ := .f32) .olt (FloatOps.mulf (F := Ideal) (φ := .f32) a (Scalar.ofBits (F := Ideal) .f32 0x3B124925#32)) (Scalar.ofBits (F := Ideal) .f32 0x7E800000#32))) = 1#1) :
    a = 0 ∨ (Ideal.ofBits .f32 0x00800000#32 ≤ a * Meaning.unit ∧ a * Meaning.unit < Ideal.ofBits .f32 0x7E800000#32) := by
  have h0 : (Scalar.ofBits .f32 0x00000000#32 : Ideal .f32) = (0 : EReal) := Ideal.ofBits_zero_f32
  rw [h0] at h
  have one (b : Bool) : BitVec.ofBool b = 1#1 ↔ b = true := by cases b <;> decide
  simpa [IntOp.ori_eq_one, IntOp.andi_eq_one, FloatOps.cmpf, Ideal.cmp, one, FloatOps.mulf, Scalar.ofBits, FloatOps.ofBits] using h

/-- The array of comparisons at an index, from the array of greatest magnitudes. -/
theorem elements (a : FVec Ideal S2048x55 .f32) (j : S2048x55.Idx)
    (h : ori (cmpf .oeq a (broadcastInDim S2048x55 ![] bcast_S_S2048x55 (constant (F := Ideal) S_ .f32 0x00000000#32)))
      (andi (cmpf .oge (mulf a (broadcastInDim S2048x55 ![] bcast_S_S2048x55 (constant (F := Ideal) S_ .f32 0x3B124925#32)))
          (broadcastInDim S2048x55 ![] bcast_S_S2048x55 (constant (F := Ideal) S_ .f32 0x00800000#32)))
        (cmpf .olt (mulf a (broadcastInDim S2048x55 ![] bcast_S_S2048x55 (constant (F := Ideal) S_ .f32 0x3B124925#32)))
          (broadcastInDim S2048x55 ![] bcast_S_S2048x55 (constant (F := Ideal) S_ .f32 0x7E800000#32)))) j = 1#1) :
    a j = 0 ∨ (Ideal.ofBits .f32 0x00800000#32 ≤ a j * Meaning.unit ∧ a j * Meaning.unit < Ideal.ofBits .f32 0x7E800000#32) :=
  element (a j) h

/-- The greatest magnitudes, as the precondition computes them. -/
theorem amax_eq (x : FVec Ideal S4x512x7040 .bf16) (h : S4x512x7040.ShapeCasts KernelIdeal.S2048x7040) (r : Fin 2048) (g : Fin 55) :
    (Host.reduce FloatOps.maximumf (Host.absf (shapeCast S2048x55x128 (extf .f32 x bitsLt_bf16_f32) shapeCasts_S4x512x7040_S2048x55x128))
      (constant (F := Ideal) S_ .f32 0xFF800000#32) reducesTo_S2048x55x128_S2048x55_d2 h_S_ : FVec Ideal S2048x55 .f32) (ix2 r g)
      = Meaning.amax (KernelIdeal.Group.grid (shapeCast KernelIdeal.S2048x7040 x h)) r g := by
  rw [max_group]
  unfold Meaning.amax
  refine congrArg (fun f => Finset.univ.fold max ⊥ f) (funext fun k => ?_)
  rw [split_apply x h]

/-- The printed predicate, true, at a row and a group. -/
theorem fn_ok (x0 : FVec Ideal S4x512x7040 .bf16) (x1 : FVec Ideal S7040x2304 .fp8e4m3) (x2 : FVec Ideal S55x18 .f32) (x3 : FVec Ideal S7040x16 .bf16)
    (x4 : FVec Ideal S16x2304 .bf16) (h : fn x0 x1 x2 x3 x4 = fun _ => 1#1) (hs : S4x512x7040.ShapeCasts KernelIdeal.S2048x7040) :
    Meaning.Ok (KernelIdeal.Group.grid (shapeCast KernelIdeal.S2048x7040 x0 hs)) := by
  intro r g
  have : Subsingleton S_.Idx := ⟨fun a b => funext fun d => d.elim0⟩
  have e := congrFun h (fun a : Fin 0 => a.elim0)
  unfold fn at e
  dsimp only at e
  have e := elements _ _ (Host.reduce_andi_all _ _ _ _ _ e (ix2 r g))
  rwa [amax_eq x0 hs] at e

/-- The precondition says that every group is in range. -/
theorem ok (m : (ℓ : Loc Cert.KernelIdeal.nD Cert.KernelIdeal.τ Cert.KernelIdeal.sig) → Buf (Elt Ideal) ℓ)
    (h : Cert.Pre_KernelIdeal_scale_in_range m) (c : Dev Cert.KernelIdeal.nD) : Meaning.Ok (Cert.KernelIdeal.Group.X m c) :=
  fn_ok _ _ _ _ _ (h c) _

end Cert.Range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scale_in_range
public import proofs.«01_k».proof.Proof.Gen.KernelIdeal.Value
public import proofs.«01_k».proof.Proof.Gen.ReferenceIdeal.Frame
public import proofs.«01_k».proof.Proof.Agree
public import proofs.«01_k».proof.Proof.Range
public import Idealize.ShloMosaic.Adequacy
public import Idealize.ShloMosaic.Init

@[expose] public section

noncomputable section

namespace Cert.Proof

open Idealize.ShloMosaic Idealize.SL.Sem Cert.Kernel

/-- The kernel and the reference end with the same three arrays. -/
theorem value : @Cert.algebraic_KernelIdeal_ReferenceIdeal_pre_scale_in_range Cert.KernelIdeal.Gen.facts Cert.ReferenceIdeal.Gen.facts
    Cert.Pre_scale_in_range.Gen.facts := by
  intro m ρ m' ρ' hpre h
  refine ⟨fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, KernelIdeal.Value.run_blocks m ρ, ?_⟩
  refine (θ_run _ _ _).mono (fun r hr c => ?_) (ReferenceIdeal.Result.run_blocks m' ρ')
  have hx := Range.ok m hpre c
  obtain ⟨h0, h1, h2, h3, h4⟩ := h c
  obtain ⟨r0, r1, r2, k⟩ := hr c
  exact ⟨r0.trans (Agree.first m m' c hx h0 h1 h2 h3 h4), r1.trans (Agree.second m m' c hx h0), r2.trans (Agree.third m m' c hx h0), k⟩

/-- The whole claim. -/
theorem claim : Cert.Claim :=
  ⟨Cert.Kernel.Gen.facts, Cert.KernelIdeal.Gen.facts, Cert.ReferenceIdeal.Gen.facts, Cert.Pre_scale_in_range.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, value⟩

end Cert.Proof

end
